-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4x512x1024 : Shape := ⟨3, ![4, 512, 1024]⟩
abbrev S8x128 : Shape := ⟨2, ![8, 128]⟩
abbrev S8x8x128 : Shape := ⟨3, ![8, 8, 128]⟩
abbrev S4x2 : Shape := ⟨2, ![4, 2]⟩
abbrev S8 : Shape := ⟨1, ![8]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1x1 : Shape := ⟨2, ![1, 1]⟩
abbrev S1x256x1024 : Shape := ⟨3, ![1, 256, 1024]⟩
abbrev S256x1024 : Shape := ⟨2, ![256, 1024]⟩
abbrev S1 : Shape := ⟨1, ![1]⟩
abbrev S1x1x1 : Shape := ⟨3, ![1, 1, 1]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S4x512x1024, .f32⟩
  | .local _ .vmem, ⟨4, _⟩ => ⟨S4x512x1024, .f32⟩
  | .local _ .vmem, ⟨5, _⟩ => ⟨S8x128, .f32⟩
  | .local _ .vmem, ⟨6, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 3 51 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c1_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v17 : BitVec 32 := Scalar.subi v2 c1_i32_12
  let c16_i32 : BitVec 32 := 16#32
  let v18 : BitVec 32 := Scalar.addi v17 c16_i32
  let c8_i32_13 : BitVec 32 := 8#32
  let v19 : BitVec 32 := Scalar.remsi v18 c8_i32_13
  let c512_i32 : BitVec 32 := 512#32
  let v20 : BitVec 32 := Scalar.muli v19 c512_i32
  let v21 : Index := Scalar.indexCast v20
  let c0_14 : Index := 0#32
  ![v21.toNat, 0]
def k0_off2 (d0 : Dev nD) (c1_i32_18 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 32 := Scalar.addi v2 c1_i32_18
  let c8_i32_19 : BitVec 32 := 8#32
  let v28 : BitVec 32 := Scalar.remsi v27 c8_i32_19
  let c512_i32_20 : BitVec 32 := 512#32
  let v29 : BitVec 32 := Scalar.muli v28 c512_i32_20
  let v30 : Index := Scalar.indexCast v29
  let c0_21 : Index := 0#32
  ![v30.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_36 : BitVec 32 := 1#32
  let v42 : BitVec 32 := Scalar.muli v7 c1_i32_36
  let v43 : BitVec 32 := Scalar.addi c0_i32_37 v42
  v43.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_48 : BitVec 32 := 1#32
  let v52 : BitVec 32 := Scalar.muli v5 c1_i32_48
  let v53 : BitVec 32 := Scalar.addi c0_i32_49 v52
  v53.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_60 : BitVec 32 := 1#32
  let v62 : BitVec 32 := Scalar.muli v7 c1_i32_60
  let v63 : BitVec 32 := Scalar.addi c0_i32_61 v62
  v63.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_71 : BitVec 32 := 1#32
  let v72 : BitVec 32 := Scalar.muli v5 c1_i32_71
  let v73 : BitVec 32 := Scalar.addi c0_i32_72 v72
  v73.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_93 : BitVec 32 := 1#32
  let v101 : BitVec 32 := Scalar.muli v5 c1_i32_93
  let v102 : BitVec 32 := Scalar.addi c0_i32_94 v101
  v102.toNat
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_96 : BitVec 32 := 1#32
  let v103 : BitVec 32 := Scalar.muli v7 c1_i32_96
  let v104 : BitVec 32 := Scalar.addi c0_i32_97 v103
  v104.toNat
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_143 : BitVec 32 := 1#32
  let v135 : BitVec 32 := Scalar.muli v7 c1_i32_143
  let v136 : BitVec 32 := Scalar.addi c0_i32_144 v135
  v136.toNat
def k0_dev10 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_155 : BitVec 32 := 1#32
  let v145 : BitVec 32 := Scalar.muli v5 c1_i32_155
  let v146 : BitVec 32 := Scalar.addi c0_i32_156 v145
  v146.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_184 : BitVec 32 := 1#32
  let v170 : BitVec 32 := Scalar.muli v7 c1_i32_184
  let v171 : BitVec 32 := Scalar.addi c0_i32_185 v170
  v171.toNat
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_214 : BitVec 32 := 1#32
  let v195 : BitVec 32 := Scalar.muli v5 c1_i32_214
  let v196 : BitVec 32 := Scalar.addi c0_i32_215 v195
  v196.toNat
def k0_dev13 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_279 : BitVec 32 := 1#32
  let v248 : BitVec 32 := Scalar.muli v5 c1_i32_279
  let v249 : BitVec 32 := Scalar.addi c0_i32_280 v248
  v249.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_282 : BitVec 32 := 1#32
  let v250 : BitVec 32 := Scalar.muli v7 c1_i32_282
  let v251 : BitVec 32 := Scalar.addi c0_i32_283 v250
  v251.toNat
def k0_dev15 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_329 : BitVec 32 := 1#32
  let v282 : BitVec 32 := Scalar.muli v7 c1_i32_329
  let v283 : BitVec 32 := Scalar.addi c0_i32_330 v282
  v283.toNat
def k0_dev16 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_341 : BitVec 32 := 1#32
  let v292 : BitVec 32 := Scalar.muli v5 c1_i32_341
  let v293 : BitVec 32 := Scalar.addi c0_i32_342 v292
  v293.toNat
def k0_dev17 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_371 : BitVec 32 := 1#32
  let v317 : BitVec 32 := Scalar.muli v7 c1_i32_371
  let v318 : BitVec 32 := Scalar.addi c0_i32_372 v317
  v318.toNat
def k0_dev18 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_401 : BitVec 32 := 1#32
  let v342 : BitVec 32 := Scalar.muli v5 c1_i32_401
  let v343 : BitVec 32 := Scalar.addi c0_i32_402 v342
  v343.toNat
def k0_dev19 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_466 : BitVec 32 := 1#32
  let v395 : BitVec 32 := Scalar.muli v5 c1_i32_466
  let v396 : BitVec 32 := Scalar.addi c0_i32_467 v395
  v396.toNat
def k0_dev20 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_469 : BitVec 32 := 1#32
  let v397 : BitVec 32 := Scalar.muli v7 c1_i32_469
  let v398 : BitVec 32 := Scalar.addi c0_i32_470 v397
  v398.toNat
def k0_dev21 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_516 : BitVec 32 := 1#32
  let v429 : BitVec 32 := Scalar.muli v7 c1_i32_516
  let v430 : BitVec 32 := Scalar.addi c0_i32_517 v429
  v430.toNat
def k0_dev22 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_528 : BitVec 32 := 1#32
  let v439 : BitVec 32 := Scalar.muli v5 c1_i32_528
  let v440 : BitVec 32 := Scalar.addi c0_i32_529 v439
  v440.toNat
def k0_dev23 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_558 : BitVec 32 := 1#32
  let v464 : BitVec 32 := Scalar.muli v7 c1_i32_558
  let v465 : BitVec 32 := Scalar.addi c0_i32_559 v464
  v465.toNat
def k0_dev24 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_588 : BitVec 32 := 1#32
  let v489 : BitVec 32 := Scalar.muli v5 c1_i32_588
  let v490 : BitVec 32 := Scalar.addi c0_i32_589 v489
  v490.toNat
def k0_dev25 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_653 : BitVec 32 := 1#32
  let v542 : BitVec 32 := Scalar.muli v5 c1_i32_653
  let v543 : BitVec 32 := Scalar.addi c0_i32_654 v542
  v543.toNat
def k0_dev26 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_656 : BitVec 32 := 1#32
  let v544 : BitVec 32 := Scalar.muli v7 c1_i32_656
  let v545 : BitVec 32 := Scalar.addi c0_i32_657 v544
  v545.toNat
def k0_dev27 (d0 : Dev nD) : Nat :=
  let c0_i32_705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_704 : BitVec 32 := 1#32
  let v576 : BitVec 32 := Scalar.muli v7 c1_i32_704
  let v577 : BitVec 32 := Scalar.addi c0_i32_705 v576
  v577.toNat
def k0_dev28 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_716 : BitVec 32 := 1#32
  let v586 : BitVec 32 := Scalar.muli v5 c1_i32_716
  let v587 : BitVec 32 := Scalar.addi c0_i32_717 v586
  v587.toNat
def k0_dev29 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_746 : BitVec 32 := 1#32
  let v611 : BitVec 32 := Scalar.muli v7 c1_i32_746
  let v612 : BitVec 32 := Scalar.addi c0_i32_747 v611
  v612.toNat
def k0_dev30 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_776 : BitVec 32 := 1#32
  let v636 : BitVec 32 := Scalar.muli v5 c1_i32_776
  let v637 : BitVec 32 := Scalar.addi c0_i32_777 v636
  v637.toNat
def k0_dev31 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_841 : BitVec 32 := 1#32
  let v689 : BitVec 32 := Scalar.muli v5 c1_i32_841
  let v690 : BitVec 32 := Scalar.addi c0_i32_842 v689
  v690.toNat
def k0_dev32 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_844 : BitVec 32 := 1#32
  let v691 : BitVec 32 := Scalar.muli v7 c1_i32_844
  let v692 : BitVec 32 := Scalar.addi c0_i32_845 v691
  v692.toNat
def k0_dev33 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_892 : BitVec 32 := 1#32
  let v723 : BitVec 32 := Scalar.muli v7 c1_i32_892
  let v724 : BitVec 32 := Scalar.addi c0_i32_893 v723
  v724.toNat
def k0_dev34 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_904 : BitVec 32 := 1#32
  let v733 : BitVec 32 := Scalar.muli v5 c1_i32_904
  let v734 : BitVec 32 := Scalar.addi c0_i32_905 v733
  v734.toNat
def k0_dev35 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_934 : BitVec 32 := 1#32
  let v758 : BitVec 32 := Scalar.muli v7 c1_i32_934
  let v759 : BitVec 32 := Scalar.addi c0_i32_935 v758
  v759.toNat
def k0_dev36 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_964 : BitVec 32 := 1#32
  let v783 : BitVec 32 := Scalar.muli v5 c1_i32_964
  let v784 : BitVec 32 := Scalar.addi c0_i32_965 v783
  v784.toNat
def k0_dev37 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1029 : BitVec 32 := 1#32
  let v836 : BitVec 32 := Scalar.muli v5 c1_i32_1029
  let v837 : BitVec 32 := Scalar.addi c0_i32_1030 v836
  v837.toNat
def k0_dev38 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1032 : BitVec 32 := 1#32
  let v838 : BitVec 32 := Scalar.muli v7 c1_i32_1032
  let v839 : BitVec 32 := Scalar.addi c0_i32_1033 v838
  v839.toNat
def k0_dev39 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1080 : BitVec 32 := 1#32
  let v870 : BitVec 32 := Scalar.muli v7 c1_i32_1080
  let v871 : BitVec 32 := Scalar.addi c0_i32_1081 v870
  v871.toNat
def k0_dev40 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1092 : BitVec 32 := 1#32
  let v880 : BitVec 32 := Scalar.muli v5 c1_i32_1092
  let v881 : BitVec 32 := Scalar.addi c0_i32_1093 v880
  v881.toNat
def k0_dev41 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1122 : BitVec 32 := 1#32
  let v905 : BitVec 32 := Scalar.muli v7 c1_i32_1122
  let v906 : BitVec 32 := Scalar.addi c0_i32_1123 v905
  v906.toNat
def k0_dev42 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1152 : BitVec 32 := 1#32
  let v930 : BitVec 32 := Scalar.muli v5 c1_i32_1152
  let v931 : BitVec 32 := Scalar.addi c0_i32_1153 v930
  v931.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1158 : BitVec 32 := 512#32
  let v940 : BitVec 32 := Scalar.muli v2 c512_i32_1158
  let v941 : Index := Scalar.indexCast v940
  let c0_1159 : Index := 0#32
  ![v941.toNat, 0]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1345 : BitVec 32 := 0#32
  let c0_i32_1346 : BitVec 32 := 0#32
  ![v2.toNat, 0, 0]
def k0_dev43 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1340 : BitVec 32 := 1#32
  let v1093 : BitVec 32 := Scalar.addi v2 c1_i32_1340
  let c8_i32_1341 : BitVec 32 := 8#32
  let v1094 : BitVec 32 := Scalar.remsi v1093 c8_i32_1341
  let c1_i32_1343 : BitVec 32 := 1#32
  let v1095 : BitVec 32 := Scalar.muli v1094 c1_i32_1343
  let v1096 : BitVec 32 := Scalar.addi c0_i32_1344 v1095
  v1096.toNat
def k0_dev44 (d0 : Dev nD) : Nat :=
  let c0_i32_1351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1347 : BitVec 32 := 2#32
  let v1103 : BitVec 32 := Scalar.addi v2 c2_i32_1347
  let c8_i32_1348 : BitVec 32 := 8#32
  let v1104 : BitVec 32 := Scalar.remsi v1103 c8_i32_1348
  let c1_i32_1350 : BitVec 32 := 1#32
  let v1105 : BitVec 32 := Scalar.muli v1104 c1_i32_1350
  let v1106 : BitVec 32 := Scalar.addi c0_i32_1351 v1105
  v1106.toNat
def k0_dev45 (d0 : Dev nD) : Nat :=
  let c0_i32_1358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1354 : BitVec 32 := 3#32
  let v1113 : BitVec 32 := Scalar.addi v2 c3_i32_1354
  let c8_i32_1355 : BitVec 32 := 8#32
  let v1114 : BitVec 32 := Scalar.remsi v1113 c8_i32_1355
  let c1_i32_1357 : BitVec 32 := 1#32
  let v1115 : BitVec 32 := Scalar.muli v1114 c1_i32_1357
  let v1116 : BitVec 32 := Scalar.addi c0_i32_1358 v1115
  v1116.toNat
def k0_dev46 (d0 : Dev nD) : Nat :=
  let c0_i32_1365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1361 : BitVec 32 := 4#32
  let v1123 : BitVec 32 := Scalar.addi v2 c4_i32_1361
  let c8_i32_1362 : BitVec 32 := 8#32
  let v1124 : BitVec 32 := Scalar.remsi v1123 c8_i32_1362
  let c1_i32_1364 : BitVec 32 := 1#32
  let v1125 : BitVec 32 := Scalar.muli v1124 c1_i32_1364
  let v1126 : BitVec 32 := Scalar.addi c0_i32_1365 v1125
  v1126.toNat
def k0_dev47 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1368 : BitVec 32 := 5#32
  let v1133 : BitVec 32 := Scalar.addi v2 c5_i32_1368
  let c8_i32_1369 : BitVec 32 := 8#32
  let v1134 : BitVec 32 := Scalar.remsi v1133 c8_i32_1369
  let c1_i32_1371 : BitVec 32 := 1#32
  let v1135 : BitVec 32 := Scalar.muli v1134 c1_i32_1371
  let v1136 : BitVec 32 := Scalar.addi c0_i32_1372 v1135
  v1136.toNat
def k0_dev48 (d0 : Dev nD) : Nat :=
  let c0_i32_1379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1375 : BitVec 32 := 6#32
  let v1143 : BitVec 32 := Scalar.addi v2 c6_i32_1375
  let c8_i32_1376 : BitVec 32 := 8#32
  let v1144 : BitVec 32 := Scalar.remsi v1143 c8_i32_1376
  let c1_i32_1378 : BitVec 32 := 1#32
  let v1145 : BitVec 32 := Scalar.muli v1144 c1_i32_1378
  let v1146 : BitVec 32 := Scalar.addi c0_i32_1379 v1145
  v1146.toNat
def k0_dev49 (d0 : Dev nD) : Nat :=
  let c0_i32_1386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1382 : BitVec 32 := 7#32
  let v1153 : BitVec 32 := Scalar.addi v2 c7_i32_1382
  let c8_i32_1383 : BitVec 32 := 8#32
  let v1154 : BitVec 32 := Scalar.remsi v1153 c8_i32_1383
  let c1_i32_1385 : BitVec 32 := 1#32
  let v1155 : BitVec 32 := Scalar.muli v1154 c1_i32_1385
  let v1156 : BitVec 32 := Scalar.addi c0_i32_1386 v1155
  v1156.toNat
def k0_off6 (d0 : Dev nD) (c1_i32_1389 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1163 : BitVec 32 := Scalar.addi v2 c1_i32_1389
  let c8_i32_1390 : BitVec 32 := 8#32
  let v1164 : BitVec 32 := Scalar.remsi v1163 c8_i32_1390
  ![v1164.toNat]
def k0_off7 (d0 : Dev nD) (c1_i32_1389 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1163 : BitVec 32 := Scalar.addi v2 c1_i32_1389
  let c8_i32_1390 : BitVec 32 := 8#32
  let v1164 : BitVec 32 := Scalar.remsi v1163 c8_i32_1390
  let c0_i32_1394 : BitVec 32 := 0#32
  let c0_i32_1395 : BitVec 32 := 0#32
  ![v1164.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Program.lean ====
/- The kernel's body as one program over symbolic steps: what each ring step does, written once for both
   directions and both halves of a chunk, and the proof that the printed body is that program. -/
module

public import proofs.«01_k».proof.Proof.Gen.KernelIdeal.Skeleton
public import proofs.«01_k».proof.Proof.Gen.KernelIdeal.Points

@[expose] public section

noncomputable section

namespace Cert.KernelIdeal.Ring

open Idealize.ShloMosaic Idealize.SL.Sem Cert.KernelIdeal Cert.KernelIdeal.Gen

variable {F : FTy → Type} [FloatOps F]

/-- Programs of a TensorCore that return nothing. -/
local notation "P" => Prog (TpuEff nD τ sig (Elt F) Λ₀ Proc.tc) PUnit

/-! ## Places

A direction is a Boolean: `false` goes clockwise (to the right neighbour), `true` the other way. A half of a
chunk is an element of `Fin 2`, a buffer slot one of `Fin 4`. -/

/-- The device `k` places to the right. -/
def ahead (k : Nat) (d : Dev nD) : Dev nD := ⟨(d.val + k) % 8, Nat.mod_lt _ (by decide)⟩

/-- The device a direction sends to, as the program computes it. -/
def nb (b : Bool) (d : Dev nD) : Dev nD := match b with | false => ⟨k0_dev3 d, k0_dev3_lt d⟩ | true => ⟨k0_dev4 d, k0_dev4_lt d⟩

/-- It is the next device to the right or to the left. -/
theorem nb_eq (b : Bool) (d : Dev nD) : nb b d = ahead (match b with | false => 1 | true => 7) d :=
  match b with | false => Fin.ext (k0_dev3_eq d) | true => Fin.ext (k0_dev4_eq d)

/-- The device the `j`-th transfer of a largest entry goes to, as the program computes it. -/
def peer (j : Fin 7) (d : Dev nD) : Dev nD :=
  match j with
  | 0 => ⟨k0_dev43 d, k0_dev43_lt d⟩ | 1 => ⟨k0_dev44 d, k0_dev44_lt d⟩ | 2 => ⟨k0_dev45 d, k0_dev45_lt d⟩ | 3 => ⟨k0_dev46 d, k0_dev46_lt d⟩
  | 4 => ⟨k0_dev47 d, k0_dev47_lt d⟩ | 5 => ⟨k0_dev48 d, k0_dev48_lt d⟩ | 6 => ⟨k0_dev49 d, k0_dev49_lt d⟩

/-- It is the device `j + 1` places to the right. -/
theorem peer_eq (j : Fin 7) (d : Dev nD) : peer j d = ahead (1 + j.val) d := by revert j d; decide

/-- The direction's communication buffer: four slots of a chunk each. -/
def comm (b : Bool) : Memref sig .tc .vmem S4x512x1024 .f32 :=
  match b with | false => Memref.whole cc0_scratch0 | true => Memref.whole cc0_scratch1

/-- The vector each device publishes its largest entry in. -/
def amaxSrc : Memref sig .tc .vmem S8x128 .f32 := Memref.whole cc0_scratch2

/-- Where the devices' largest entries are gathered: one row per device. -/
def amaxBuf : Memref sig .tc .vmem S8x8x128 .f32 := Memref.whole cc0_scratch3

/-- The staged operands and result. -/
def xs : Memref sig .tc .vmem S4096x512 .f32 := Memref.whole cc0_stg0_0
@[inherit_doc xs] def ws : Memref sig .tc .vmem S512x2048 .f32 := Memref.whole cc0_stg1_0
@[inherit_doc xs] def os : Memref sig .tc .vmem S512x2048 .f32 := Memref.whole cc0_stg2_0

theorem inb_piece (s : Fin 4) (u : Fin 2) : ∀ a, (![s.val, 256 * u.val, 0] : Fin 3 → Nat) a + S1x256x1024.size a ≤ S4x512x1024.size a := by
  revert s u; decide
theorem inb_slot (s : Fin 4) : ∀ a, (![s.val, 0, 0] : Fin 3 → Nat) a + S1x512x1024.size a ≤ S4x512x1024.size a := by
  revert s; decide
theorem inb_sem (s : Fin 4) (u : Fin 2) : ∀ a, (![s.val, u.val] : Fin 2 → Nat) a + S1x1.size a ≤ S4x2.size a := by
  revert s u; decide
theorem inb_col (b : Bool) : ∀ a, (![0, match b with | false => 0 | true => 1024] : Fin 2 → Nat) a + S512x1024.size a ≤ S512x2048.size a := by
  revert b; decide
theorem inb_asem (j : Fin 7) : ∀ a, (![1 + j.val] : Fin 1 → Nat) a + S1.size a ≤ S8.size a := by
  revert j; decide

/-- Half `u` of a slot, as a rectangle of the communication buffer. -/
abbrev pieceR (s : Fin 4) (u : Fin 2) : Rect S4x512x1024 := Rect.unit (s := S4x512x1024) ![s.val, 256 * u.val, 0] S1x256x1024.size (inb_piece s u)
/-- A slot, as a rectangle of the communication buffer. -/
abbrev slotR (s : Fin 4) : Rect S4x512x1024 := Rect.unit (s := S4x512x1024) ![s.val, 0, 0] S1x512x1024.size (inb_slot s)
/-- The columns of the weights and of the result a direction works on. -/
abbrev colR (b : Bool) : Rect S512x2048 := Rect.unit (s := S512x2048) ![0, match b with | false => 0 | true => 1024] S512x1024.size (inb_col b)

/-- Half `u` of a slot of the direction's buffer, with the axis of size one. -/
abbrev piece (b : Bool) (s : Fin 4) (u : Fin 2) : Memref sig .tc .vmem S1x256x1024 .f32 := (comm b).slice (pieceR s u) (fun _ => rfl)
/-- The same half without that axis, as the transfers name it. -/
abbrev flat (b : Bool) (s : Fin 4) (u : Fin 2) : Memref sig .tc .vmem S256x1024 .f32 :=
  (piece b s u).squeeze S256x1024 squeezes_S1x256x1024_S256x1024

/-- The row of the gathered entries that device `d` writes, on every device. -/
abbrev rowOf (d : Dev nD) : Memref sig .tc .vmem S8x128 .f32 :=
  (amaxBuf.slice (Rect.unit (s := S8x8x128) (k0_off5 d) S1x8x128.size (k0_off5_inb d)) (fun _ => rfl)).squeeze S8x128 squeezes_S1x8x128_S8x128

/-! ## Semaphores -/

/-- The semaphores of a direction's sends and arrivals, by slot and half. -/
def sendA (b : Bool) : DmaSems sig S4x2 := match b with | false => cc0_scratch4 | true => cc0_scratch6
@[inherit_doc sendA] def recvA (b : Bool) : DmaSems sig S4x2 := match b with | false => cc0_scratch5 | true => cc0_scratch7
/-- The direction's credit semaphore. -/
def creditA (b : Bool) : Sems sig S_ := match b with | false => cc0_scratch10 | true => cc0_scratch11

/-- The semaphore of an array of them at a slot and half. -/
abbrev semAt (a : DmaSems sig S4x2) (s : Fin 4) (u : Fin 2) : DmaSem sig :=
  ((a.slice (Rect.unit (s := S4x2) ![s.val, u.val] S1x1.size (inb_sem s u))).squeeze S_ squeezes_S1x1_S_).sem

abbrev sendSem (b : Bool) (s : Fin 4) (u : Fin 2) : DmaSem sig := semAt (sendA b) s u
abbrev recvSem (b : Bool) (s : Fin 4) (u : Fin 2) : DmaSem sig := semAt (recvA b) s u
abbrev credSem (b : Bool) : Sem sig := (creditA b).sem
abbrev barSem : Sem sig := (SemArray.scalar (d := ![]) (sig.barrier 0 rfl) : Sems sig S_).sem

/-- The semaphore of the `j`-th transfer of a device's largest entry. -/
abbrev asendSem (j : Fin 7) : DmaSem sig :=
  ((cc0_scratch8.slice (Rect.unit (s := S8) ![1 + j.val] S1.size (inb_asem j))).squeeze S_ squeezes_S1_S_).sem
/-- The semaphore device `d`'s entry arrives on. -/
abbrev arecvSem (d : Dev nD) : DmaSem sig :=
  ((cc0_scratch9.slice (Rect.unit (s := S8) (k0_off4 d) S1.size (k0_off4_inb d))).squeeze S_ squeezes_S1_S_).sem
/-- The semaphore on which device `d` waits for the entry of the device `j + 1` places to its right. -/
abbrev awaitSem (d : Dev nD) (j : Fin 7) : DmaSem sig :=
  ((cc0_scratch9.slice (Rect.unit (s := S8) (k0_off6 d (BitVec.ofNat 32 (1 + j.val))) S1.size (k0_off6_inb d j))).squeeze S_ squeezes_S1_S_).sem
/-- The row that entry arrives in. -/
abbrev awaitRow (d : Dev nD) (j : Fin 7) : Memref sig .tc .vmem S8x128 .f32 :=
  (amaxBuf.slice (Rect.unit (s := S8x8x128) (k0_off7 d (BitVec.ofNat 32 (1 + j.val))) S1x8x128.size (k0_off7_inb d j)) (fun _ => rfl)).squeeze S8x128 squeezes_S1x8x128_S8x128

/-! ## Values -/

/-- The product of a chunk of rows with the direction's columns. -/
abbrev prod (x : Vec F S512x512 .f32) (w : Vec F S512x1024 .f32) : FVec F S512x1024 .f32 := k0_pay7 x w

/-- A half of a product added to what arrived. -/
def accum (u : Fin 2) (g : FVec F S512x1024 .f32) (v : Vec F S1x256x1024 .f32) : FVec F S1x256x1024 .f32 :=
  match u with | 0 => k0_pay12 g v | 1 => k0_pay14 g v

/-- The products of the two directions. -/
abbrev Prods (F : FTy → Type) [FloatOps F] : Type := Bool → FVec F S512x1024 .f32

/-- A pair of products, one per direction. -/
def prods (a c : FVec F S512x1024 .f32) : Prods F := fun b => match b with | false => a | true => c

/-- The rows of the operand a direction's step multiplies. -/
def xoff (b : Bool) (d : Dev nD) (r : Fin 7) : Fin 2 → Nat :=
  match b with | false => k0_off1 d (BitVec.ofNat 32 (1 + r.val)) | true => k0_off2 d (BitVec.ofNat 32 (1 + r.val))
theorem xoff_inb (b : Bool) (d : Dev nD) (r : Fin 7) : ∀ a, xoff b d r a + S512x512.size a ≤ S4096x512.size a :=
  match b with | false => k0_off1_inb d r | true => k0_off2_inb d r

/-- The slot a step fills, and the one it sends from. -/
abbrev sl (n : Nat) : Fin 4 := ⟨n % 4, Nat.mod_lt _ (by decide)⟩

/-! ## The pieces of the program -/

/-- A semaphore of another device is signalled once. -/
def signalK (d : Dev nD) (s : Sem sig) (k : P) : P := .op (.semSignal (d.tc) s (BitVec.toInt 1#32)) fun _ => k
/-- A count is awaited. -/
def waitK (s : Sem sig) (n : BitVec 32) (k : P) : P := .op (.semWait s (BitVec.toInt n)) fun _ => k

/-- A half is sent on, from the step's slot to the next slot of the neighbour. -/
def sendK (b : Bool) (n : Nat) (u : Fin 2) (d : Dev nD) (k : P) : P :=
  .op (.enqueueDma (flat b (sl n) u) (.remote ((nb b d).tc) (flat b (sl (n + 1)) u) (.dma (sendSem b (sl n) u))) (.dma (recvSem b (sl (n + 1)) u))
    ((View.wordExact_bits rfl).reshape _ _) ((View.wordExact_bits rfl).reshape _ _) ⟨⟨rfl, Or.inl rfl⟩, trivial⟩) fun _ => k

/-- The half sent at step `n` is awaited at the receiver. -/
def arriveK (b : Bool) (n : Nat) (u : Fin 2) (k : P) : P :=
  .op (.waitDma2 (recvSem b (sl (n + 1)) u) (flat b (sl n) u) (flat b (sl (n + 1)) u)
    ((View.wordExact_bits rfl).reshape _ _) ((View.wordExact_bits rfl).reshape _ _)) fun _ => k

/-- The half sent at step `n` is awaited at the sender. -/
def departK (b : Bool) (n : Nat) (u : Fin 2) (k : P) : P :=
  .op (.waitDma2 (sendSem b (sl n) u) (flat b (sl (n + 1)) u) (flat b (sl n) u)
    ((View.wordExact_bits rfl).reshape _ _) ((View.wordExact_bits rfl).reshape _ _)) fun _ => k

/-- A half of a slot is read. -/
def readK (b : Bool) (s : Fin 4) (u : Fin 2) (k : Vec F S1x256x1024 .f32 → P) : P :=
  .op (.load (comm b) (pieceR s u).toLoadRect (View.loadsAt_vmem h_S1x256x1024)) k

/-- A half of a slot is overwritten. -/
def writeK (b : Bool) (s : Fin 4) (u : Fin 2) (v : FVec F S1x256x1024 .f32) (k : P) : P :=
  .op (.store (comm b) (pieceR s u) v Finset.univ (View.stores_vmem_bits_univ h_S1x256x1024 rfl) (.inl rfl)) fun _ => k

/-- What arrived at step `n` has the own product added to it; the continuation gets what arrived. -/
def takeK (b : Bool) (n : Nat) (u : Fin 2) (g : FVec F S512x1024 .f32) (k : Vec F S1x256x1024 .f32 → P) : P :=
  arriveK b n u (readK b (sl (n + 1)) u fun v => readK b (sl (n + 1)) u fun _ => writeK b (sl (n + 1)) u (accum u g v) (k v))

/-- One product: a chunk of rows and the direction's columns are read. -/
def mulK (b : Bool) (off : Fin 2 → Nat) (inb : ∀ a, off a + S512x512.size a ≤ S4096x512.size a) (k : FVec F S512x1024 .f32 → P) : P :=
  .op (.load xs (Rect.unit (s := S4096x512) off S512x512.size inb).toLoadRect (View.loadsAt_vmem h_S512x512)) fun x =>
  .op (.load ws (colR b).toLoadRect (View.loadsAt_vmem h_S512x1024)) fun w => k (prod x w)

/-- Both directions' products for step `r` are formed. -/
def mulsK (d : Dev nD) (r : Fin 7) (k : Prods F → P) : P :=
  mulK false (xoff false d r) (xoff_inb false d r) fun a => mulK true (xoff true d r) (xoff_inb true d r) fun c => k (prods a c)

/-- Both products of the device's own chunk are formed. -/
def ownK (d : Dev nD) (k : Prods F → P) : P :=
  mulK false (k0_off3 d) (k0_off3_inb d) fun a => mulK true (k0_off3 d) (k0_off3_inb d) fun c => k (prods a c)

/-- A whole slot is read, then written. -/
def fillK (b : Bool) (v : FVec F S512x1024 .f32) (k : P) : P :=
  .op (.load (comm b) (slotR 0).toLoadRect (View.loadsAt_vmem h_S1x512x1024)) fun _ =>
  .op (.store (comm b) (slotR 0) (k0_pay8 v) Finset.univ (View.stores_vmem_bits_univ h_S1x512x1024 rfl) (.inl rfl)) fun _ => k

/-- The four halves sent at step `n` have left. -/
def departsK (n : Nat) (k : P) : P :=
  departK false n 0 <| departK false n 1 <| departK true n 0 <| departK true n 1 k

/-- Each neighbour is told that a step is over. -/
def creditsK (d : Dev nD) (k : P) : P := signalK (nb true d) (credSem false) <| signalK (nb false d) (credSem true) k

/-- The head of a later step: the first halves go out, the second ones of the step before are taken in and go out too. -/
def headK (d : Dev nD) (n : Nat) (g : Prods F) (k : P) : P :=
  waitK (credSem false) 1#32 <| waitK (credSem true) 1#32 <|
  sendK false (n + 1) 0 d <| sendK true (n + 1) 0 d <|
  takeK false n 1 (g false) fun _ => sendK false (n + 1) 1 d <|
  takeK true n 1 (g true) fun _ => sendK true (n + 1) 1 d k

/-- The first halves that arrive at step `n` are taken in. -/
def firstK (n : Nat) (g : Prods F) (k : Vec F S1x256x1024 .f32 → Vec F S1x256x1024 .f32 → P) : P :=
  takeK false n 0 (g false) fun v => takeK true n 0 (g true) fun w => k v w

/-- A middle step, from the products of the step before to its own. -/
def midK (d : Dev nD) (n : Fin 5) (g : Prods F) (k : Prods F → P) : P :=
  headK d n.val g <| mulsK d ⟨n.val + 2, by omega⟩ fun g' =>
  departsK n.val <| creditsK d <| firstK (n.val + 1) g' fun _ _ => k g'

/-- The middle steps, `n` of them gone. -/
def midsK (d : Dev nD) (k : Prods F → P) : (fuel n : Nat) → n + fuel = 5 → Prods F → P
  | 0, _, _, g => k g
  | fuel + 1, n, h, g => midK d ⟨n, by omega⟩ g (midsK d k fuel (n + 1) (by omega))

/-- The program before the first arrival. -/
def startK (d : Dev nD) (k : P) : P :=
  signalK (nb true d) barSem <| signalK (nb false d) barSem <|
  .op (.load amaxBuf (Rect.unit (s := S8x8x128) ![0, 0, 0] S8x8x128.size inb_S8x8x128_S8x8x128_0_0_0).toLoadRect (View.loadsAt_vmem h_S8x8x128)) fun _ =>
  .op (.store amaxBuf (Rect.unit (s := S8x8x128) ![0, 0, 0] S8x8x128.size inb_S8x8x128_S8x8x128_0_0_0) (k0_pay6 (F := F)) Finset.univ (View.stores_vmem_bits_univ h_S8x8x128 rfl) (.inl rfl)) fun _ =>
  mulsK d 0 fun g => fillK false (g false) <| fillK true (g true) <| waitK barSem 2#32 k

/-- The first step. -/
def zeroK (d : Dev nD) (k : Prods F → P) : P :=
  sendK false 0 0 d <| sendK true 0 0 d <| sendK false 0 1 d <| sendK true 0 1 d <|
  mulsK d 1 fun g => creditsK d <| firstK 0 g fun _ _ => k g

/-- The last step: its continuation gets the sums that the local maximum is taken over, first halves first. -/
def lastK (d : Dev nD) (g : Prods F) (k : Prods F → Vec F S1x256x1024 .f32 → Vec F S1x256x1024 .f32 → Vec F S1x256x1024 .f32 → Vec F S1x256x1024 .f32 → P) : P :=
  headK d 5 g <| ownK d fun g' => departsK 5 <| firstK 6 g' fun v w =>
  takeK false 6 1 (g' false) fun v' => takeK true 6 1 (g' true) fun w' => departsK 6 (k g' v w v' w')

/-- A whole slot is read. -/
def slotK (b : Bool) (k : Vec F S1x512x1024 .f32 → P) : P :=
  .op (.load (comm b) (slotR 3).toLoadRect (View.loadsAt_vmem h_S1x512x1024)) k

/-- The device's largest entry, from the products and what arrived last. -/
def lamax (g : Prods F) (v w v' w' : Vec F S1x256x1024 .f32) : F .f32 :=
  k0_pay69 (k0_pay61 (g true) (k0_pay57 (g false) v) w) (k0_pay64 (g true) w') (k0_pay68 (k0_pay62 (g false) v'))

/-- The vector it is published as. -/
def lamaxV (a : F .f32) : FVec F S8x128 .f32 := shapeCast S8x128 (broadcast S8x128 a) shapeCasts_S8x128_S8x128

/-- The device's entry goes to the device `j + 1` places to the right. -/
def asendK (d : Dev nD) (j : Fin 7) (k : P) : P :=
  .op (.enqueueDma amaxSrc (.remote ((peer j d).tc) (rowOf d) (.dma (asendSem j))) (.dma (arecvSem d))
    (Memref.isWhole_whole _).wordExact ((View.wordExact_bits rfl).reshape _ _) ⟨⟨rfl, Or.inl rfl⟩, trivial⟩) fun _ => k

/-- The entry of the device `j + 1` places to the right is awaited. -/
def aarriveK (d : Dev nD) (j : Fin 7) (k : P) : P :=
  .op (.waitDma2 (awaitSem d j) amaxSrc (awaitRow d j) (Memref.isWhole_whole _).wordExact ((View.wordExact_bits rfl).reshape _ _)) fun _ => k

/-- The own entry's `j`-th transfer is awaited. -/
def adepartK (d : Dev nD) (j : Fin 7) (k : P) : P :=
  .op (.waitDma2 (asendSem j) (rowOf d) amaxSrc ((View.wordExact_bits rfl).reshape _ _) (Memref.isWhole_whole _).wordExact) fun _ => k

/-- A program for each index from `n` on, in order. -/
def eachK (f : Fin 7 → P → P) (k : P) : (fuel n : Nat) → n + fuel = 7 → P
  | 0, _, _ => k
  | fuel + 1, n, h => f ⟨n, by omega⟩ (eachK f k fuel (n + 1) (by omega))

/-- The local maximum is stored and exchanged, and all of them read. -/
def shareK (d : Dev nD) (a : F .f32) (k : Vec F S8x8x128 .f32 → P) : P :=
  .op (.load amaxSrc (Rect.unit (s := S8x128) ![0, 0] S8x128.size inb_S8x128_S8x128_0_0).toLoadRect (View.loadsAt_vmem h_S8x128)) fun _ =>
  .op (.store amaxSrc (Rect.unit (s := S8x128) ![0, 0] S8x128.size inb_S8x128_S8x128_0_0) (lamaxV a) Finset.univ (View.stores_vmem_bits_univ h_S8x128 rfl) (.inl rfl)) fun _ =>
  eachK (asendK d) (eachK (aarriveK d) (eachK (adepartK d)
    (.op (.load amaxBuf (Rect.unit (s := S8x8x128) ![0, 0, 0] S8x8x128.size inb_S8x8x128_S8x8x128_0_0_0).toLoadRect (View.loadsAt_vmem h_S8x8x128)) k) 7 0 rfl) 7 0 rfl) 7 0 rfl

/-- A direction's columns of the result are written. -/
def outK (b : Bool) (y : Vec F S1x512x1024 .f32) (a : F .f32) (all : Vec F S8x8x128 .f32) (k : P) : P :=
  .op (.load os (colR b).toLoadRect (View.loadsAt_vmem h_S512x1024)) fun _ =>
  .op (.store os (colR b) (k0_pay4 (k0_pay66 y) a all) Finset.univ (View.stores_vmem_bits_univ h_S512x1024 rfl) (.inl rfl)) fun _ => k

/-- The body on device `d`. -/
def bodyOn (d : Dev nD) : P :=
  startK d <| zeroK d <| midsK d (fun g => lastK d g fun g' v w v' w' =>
    slotK false fun y => slotK true fun z => shareK d (lamax g' v w v' w') fun all =>
    outK false y (lamax g' v w v' w') all <| outK true z (lamax g' v w v' w') all <| .ret ⟨⟩) 5 0 rfl

/-- The whole body. -/
def body : P := .op .deviceId bodyOn

end Cert.KernelIdeal.Ring

end
-- ==== Proof.Cells.lean ====
/- The semaphores of the ring, what each device pays into them and in which order, and the levels that rule out
   a deadlock. Nothing here mentions memory. -/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

/-! ## The ring of devices -/

theorem nb_nb (b : Bool) (d : Dev nD) : nb b (nb (!b) d) = d := by revert b d; decide
theorem nb_nb' (b : Bool) (d : Dev nD) : nb (!b) (nb b d) = d := by revert b d; decide
theorem peer_peer (j : Fin 7) (d : Dev nD) : peer j (peer j.rev d) = d := by revert j d; decide
theorem peer_peer' (j : Fin 7) (d : Dev nD) : peer j.rev (peer j d) = d := by revert j d; decide
theorem peer_ne (j : Fin 7) (d : Dev nD) : peer j d ≠ d := by revert j d; decide
theorem nb_inj {b : Bool} {d e : Dev nD} (h : nb b d = nb b e) : d = e := by rw [← nb_nb' b d, h, nb_nb']

/-! ## The semaphores, by name -/

/-- The semaphores a device has besides its staging ones. -/
inductive Key where
  | bar
  | cred (b : Bool)
  | send (b : Bool) (s : Fin 4) (u : Fin 2)
  | recv (b : Bool) (s : Fin 4) (u : Fin 2)
  | asend (j : Fin 8)
  | arecv (i : Dev nD)
  deriving DecidableEq

/-- The names as a sum of finite types. -/
def Key.equiv : Key ≃ (Unit ⊕ Bool) ⊕ ((Bool × Fin 4 × Fin 2) ⊕ (Bool × Fin 4 × Fin 2)) ⊕ (Fin 8 ⊕ Dev nD) where
  toFun | .bar => .inl (.inl ()) | .cred b => .inl (.inr b) | .send b s u => .inr (.inl (.inl (b, s, u)))
        | .recv b s u => .inr (.inl (.inr (b, s, u))) | .asend j => .inr (.inr (.inl j)) | .arecv i => .inr (.inr (.inr i))
  invFun | .inl (.inl _) => .bar | .inl (.inr b) => .cred b | .inr (.inl (.inl (b, s, u))) => .send b s u
         | .inr (.inl (.inr (b, s, u))) => .recv b s u | .inr (.inr (.inl j)) => .asend j | .inr (.inr (.inr i)) => .arecv i
  left_inv k := by cases k <;> rfl
  right_inv k := by rcases k with (⟨⟨⟩⟩ | b) | (⟨b, s, u⟩ | ⟨b, s, u⟩) | (j | i) <;> rfl

instance : Fintype Key := Fintype.ofEquiv _ Key.equiv.symm

theorem inb_asem8 (j : Fin 8) : ∀ a, (![j.val] : Fin 1 → Nat) a + S1.size a ≤ S8.size a := by
  revert j; decide

/-- The semaphore of a name. -/
def kloc : Key → SemLoc sig
  | .bar => .reg barSem
  | .cred b => .reg (credSem b)
  | .send b s u => .dma (sendSem b s u)
  | .recv b s u => .dma (recvSem b s u)
  | .asend j => .dma ((cc0_scratch8.slice (Rect.unit (s := S8) ![j.val] S1.size (inb_asem8 j))).squeeze S_ squeezes_S1_S_).sem
  | .arecv i => .dma (arecvSem i)

/-- The name of a place in the table of transfer semaphores. -/
def dmaKey (n : Nat) : Option Key :=
  if n < 3 then none
  else if n < 11 then some (.send false ⟨(n - 3) / 2 % 4, Nat.mod_lt _ (by decide)⟩ ⟨(n - 3) % 2, Nat.mod_lt _ (by decide)⟩)
  else if n < 19 then some (.recv false ⟨(n - 11) / 2 % 4, Nat.mod_lt _ (by decide)⟩ ⟨(n - 11) % 2, Nat.mod_lt _ (by decide)⟩)
  else if n < 27 then some (.send true ⟨(n - 19) / 2 % 4, Nat.mod_lt _ (by decide)⟩ ⟨(n - 19) % 2, Nat.mod_lt _ (by decide)⟩)
  else if n < 35 then some (.recv true ⟨(n - 27) / 2 % 4, Nat.mod_lt _ (by decide)⟩ ⟨(n - 27) % 2, Nat.mod_lt _ (by decide)⟩)
  else if n < 43 then some (.asend ⟨(n - 35) % 8, Nat.mod_lt _ (by decide)⟩)
  else some (.arecv ⟨(n - 43) % 8, Nat.mod_lt _ (by decide)⟩)

/-- The name of a semaphore, if it has one. -/
def keyOf : SemLoc sig → Option Key
  | .reg s => if s.val = 0 then some (.cred false) else if s.val = 1 then some (.cred true) else some .bar
  | .dma s => dmaKey s.val

theorem keyOf_kloc : ∀ k : Key, keyOf (kloc k) = some k
  | .bar => by decide
  | .cred b => by revert b; decide
  | .send b s u => by revert b s u; decide
  | .recv b s u => by revert b s u; decide
  | .asend j => by revert j; decide
  | .arecv i => by revert i; decide

theorem kloc_inj {k k' : Key} (h : kloc k = kloc k') : k = k' := by
  have := congrArg keyOf h; rw [keyOf_kloc, keyOf_kloc] at this; exact Option.some.inj this

/-- The cell of a device's semaphore. -/
abbrev kcell (c : Dev nD) (k : Key) : GSem nD τ sig := ((c : Thread nD τ), kloc k)

theorem kcell_inj {c c' : Dev nD} {k k' : Key} (h : kcell c k = kcell c' k') : c = c' ∧ k = k' :=
  ⟨congrArg (fun g : GSem nD τ sig => g.1.1) h, kloc_inj (congrArg Prod.snd h)⟩

theorem asend_eq (j : Fin 7) : SemLoc.dma (asendSem j) = kloc (.asend j.succ) := by revert j; decide
theorem await_eq (d : Dev nD) (j : Fin 7) : SemLoc.dma (awaitSem d j) = kloc (.arecv (peer j d)) := by revert d j; decide

/-! ## What a device pays -/

/-- The payments of a device: the two barrier signals, a half of a chunk per direction and step, the credits, the
    largest entry to each other device. -/
inductive Op where
  | bar (b : Bool)
  | hop (b : Bool) (s : Fin 7) (u : Fin 2)
  | crd (b : Bool) (s : Fin 6)
  | amx (j : Fin 7)
  deriving DecidableEq

/-- The payments as a sum of finite types. -/
def Op.equiv : Op ≃ (Bool ⊕ (Bool × Fin 7 × Fin 2)) ⊕ ((Bool × Fin 6) ⊕ Fin 7) where
  toFun | .bar b => .inl (.inl b) | .hop b s u => .inl (.inr (b, s, u)) | .crd b s => .inr (.inl (b, s)) | .amx j => .inr (.inr j)
  invFun | .inl (.inl b) => .bar b | .inl (.inr (b, s, u)) => .hop b s u | .inr (.inl (b, s)) => .crd b s | .inr (.inr j) => .amx j
  left_inv k := by cases k <;> rfl
  right_inv k := by rcases k with (b | ⟨b, s, u⟩) | (⟨b, s⟩ | j) <;> rfl

instance : Fintype Op := Fintype.ofEquiv _ Op.equiv.symm

/-- Whom a payment goes to, -/
def Op.tgt : Op → Dev nD → Dev nD
  | .bar b, d => nb (!b) d
  | .hop b _ _, d => nb b d
  | .crd b _, d => nb (!b) d
  | .amx j, d => peer j d
/-- whom a device gets it from, -/
def Op.src : Op → Dev nD → Dev nD
  | .bar b, d => nb b d
  | .hop b _ _, d => nb (!b) d
  | .crd b _, d => nb b d
  | .amx j, d => peer j.rev d
/-- the semaphore it raises, the payer given, -/
def Op.key : Op → Dev nD → Key
  | .bar _, _ => .bar
  | .hop b s u, _ => .recv b (sl (s.val + 1)) u
  | .crd b _, _ => .cred b
  | .amx _, d => .arecv d
/-- its round and its name there, -/
def Op.rnd : Op → ℕ
  | .hop _ s _ => s.val / 4
  | _ => 0
@[inherit_doc Op.rnd] def Op.dty : Op → ℕ
  | .bar b => b.toNat
  | .crd _ s => s.val
  | _ => 0
/-- when it is made, -/
def Op.tm : Op → ℕ
  | .bar b => b.toNat
  | .hop b s u => 2 + 6 * s.val + 2 * u.val + b.toNat
  | .crd b s => 6 + 6 * s.val + b.toNat
  | .amx j => 42 + j.val
/-- and its level. -/
def Op.lvl : Op → ℕ
  | .bar _ => 1
  | .hop _ s _ => 4 * s.val + 4
  | .crd _ s => 4 * s.val + 6
  | .amx _ => 100

/-- What a transfer of a half raises its semaphore by, and one of a largest entry. -/
abbrev NP (b : Bool) : ℕ := (flat b 0 0).view.dmaCredit
@[inherit_doc NP] abbrev NA : ℕ := (rowOf 0).view.dmaCredit
theorem NP_pos (b : Bool) : 0 < NP b := View.dmaCredit_pos _ (by decide)
theorem NA_pos : 0 < NA := View.dmaCredit_pos _ (by decide)

/-- What a payment raises its semaphore by. -/
def Op.amt : Op → ℕ
  | .hop b _ _ => NP b
  | .amx _ => NA
  | _ => 1

theorem Op.tgt_src : ∀ (op : Op) (c : Dev nD), op.tgt (op.src c) = c
  | .bar b, c => nb_nb' b c
  | .hop b _ _, c => nb_nb b c
  | .crd b _, c => nb_nb' b c
  | .amx j, c => peer_peer j c
theorem Op.src_tgt : ∀ (op : Op) (c : Dev nD), op.src (op.tgt c) = c
  | .bar b, c => nb_nb b c
  | .hop b _ _, c => nb_nb' b c
  | .crd b _, c => nb_nb b c
  | .amx j, c => peer_peer' j c

theorem Op.tm_inj {o p : Op} (h : o.tm = p.tm) : o = p := by
  rcases o with b | ⟨b, s, u⟩ | ⟨b, s⟩ | j <;> rcases p with b' | ⟨b', s', u'⟩ | ⟨b', s'⟩ | j' <;>
    (try cases b) <;> (try cases b') <;> simp only [Op.tm, Bool.toNat_false, Bool.toNat_true] at h <;>
    first
    | rfl
    | omega
    | (have hs : s = s' := Fin.ext (by omega)
       subst hs
       first
       | rfl
       | (have hu : u = u' := Fin.ext (by omega)
          subst hu; rfl))
    | (have hj : j = j' := Fin.ext (by omega)
       subst hj; rfl)

/-- The cell a payment of device `d` raises. -/
abbrev Op.cell (op : Op) (d : Dev nD) : GSem nD τ sig := kcell (op.tgt d) (op.key d)

/-- A device's payments from a time on. -/
def pending (n : ℕ) : Finset Op := Finset.univ.filter fun op => n ≤ op.tm

theorem mem_pending {n : ℕ} {op : Op} : op ∈ pending n ↔ n ≤ op.tm := by simp [pending]

theorem pending_tm (op : Op) : pending op.tm = insert op (pending (op.tm + 1)) := by
  ext o
  rw [Finset.mem_insert, mem_pending, mem_pending]
  constructor
  · intro h
    rcases Nat.lt_or_ge op.tm o.tm with h' | h'
    · exact .inr h'
    · exact .inl (Op.tm_inj (Nat.le_antisymm h' h))
  · rintro (rfl | h)
    · exact Nat.le_refl _
    · omega

theorem not_mem_pending_succ (op : Op) : op ∉ pending (op.tm + 1) := fun h => by have := mem_pending.mp h; omega

/-! ## Ghost state: indices are levels, duty names numbers -/

abbrev UB : Type := URounds (GSem nD τ sig) ℕ
abbrev UU : Type := UR sig nD τ × UB

/-- What device `d` owes from time `n` on. -/
def O (d : Dev nD) (n : ℕ) : CellTallies nD τ sig ℕ := ∑ op ∈ pending n, tallyAt (op.cell d) op.lvl op.amt

theorem O_tm (d : Dev nD) (op : Op) : O d op.tm = O d (op.tm + 1) + tallyAt (op.cell d) op.lvl op.amt := by
  unfold O; rw [pending_tm, Finset.sum_insert (not_mem_pending_succ op), add_comm]

theorem O_end (d : Dev nD) : O d 49 = 0 := by
  unfold O
  rw [show pending 49 = ∅ from Finset.eq_empty_of_forall_notMem fun op h => ?_, Finset.sum_empty]
  have := mem_pending.mp h
  rcases op with b | ⟨b, s, u⟩ | ⟨b, s⟩ | j <;> simp only [Op.tm] at this
  · have := b.toNat_lt; omega
  · have := b.toNat_lt; omega
  · have := b.toNat_lt; omega
  · omega

/-- The levels of a TensorCore's cells; an index is its own level. -/
def L (g : GSem nD τ sig) : Finset ℕ := if g.1.2 = .tc then Finset.range 101 else ∅
@[inherit_doc L] def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 101 := if_pos rfl

theorem O_pos {d : Dev nD} {n : ℕ} {g : GSem nD τ sig} {i : ℕ} (h : 0 < O d n g i) :
    ∃ op : Op, n ≤ op.tm ∧ g = op.cell d ∧ i = op.lvl := by
  unfold O at h
  rw [Finset.sum_apply, Finsupp.finsetSum_apply] at h
  obtain ⟨op, hop, hne⟩ := Finset.exists_ne_zero_of_sum_ne_zero (Nat.pos_iff_ne_zero.mp h)
  have := Pipeline.tallyAt_pos (Nat.pos_of_ne_zero hne)
  exact ⟨op, mem_pending.mp hop, this⟩

theorem Op.lvl_lt (op : Op) : op.lvl < 101 := by
  rcases op with b | ⟨b, s, u⟩ | ⟨b, s⟩ | j <;> simp only [Op.lvl] <;> omega

end Cert.KernelIdeal.Ring

end
-- ==== Proof.Protocol.lean ====
/- The ring's protocol: what every buffer half holds after every step, what each payment hands over, and the
   schedule of rounds that all devices agree on. -/
module

public import proofs.«01_k».proof.Proof.Cells
public import Idealize.ShloMosaic.Lib.Memref
public import Idealize.ShloMosaic.Lib.ShareLeaves

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Contents -/

/-- What the staging buffers of the operands hold on a device. -/
def xstg (c : Dev nD) : (cc0_stg0_0 : Ref sig .tc).ty.Contents (Elt F) :=
  (win0_0.blk (0 : Fin 1)).view.read (Elt F) (m ((c : Thread nD τ).loc main_arg0))
@[inherit_doc xstg] def wstg (c : Dev nD) : (cc0_stg1_0 : Ref sig .tc).ty.Contents (Elt F) :=
  (win0_1.blk (0 : Fin 1)).view.read (Elt F) (m ((c : Thread nD τ).loc main_arg1))

/-- The product of the rows from `off` on with a direction's columns, on a device. -/
def mulV (b : Bool) (c : Dev nD) (off : Fin 2 → Nat) (inb : ∀ a, off a + S512x512.size a ≤ S4096x512.size a) : FVec F S512x1024 .f32 :=
  prod (xs.view.readAt (Elt F) (Rect.unit (s := S4096x512) off S512x512.size inb).toLoadRect (xstg m c)) (ws.view.readAt (Elt F) (colR b).toLoadRect (wstg m c))

/-- A device's product at a step: of the chunk the step is for, and at the end of its own chunk. -/
def gv (b : Bool) (c : Dev nD) (n : ℕ) : FVec F S512x1024 .f32 :=
  if h : n < 7 then mulV m b c (xoff b c ⟨n, h⟩) (xoff_inb b c ⟨n, h⟩) else mulV m b c (k0_off3 c) (k0_off3_inb c)

/-- Half `u` of a slot's contents. -/
abbrev halfR (u : Fin 2) : Rect S1x512x1024 := Rect.unit (s := S1x512x1024) ![0, 256 * u.val, 0] S1x256x1024.size (by revert u; decide)
@[inherit_doc halfR] def half (u : Fin 2) (X : FVec F S1x512x1024 .f32) : FVec F S1x256x1024 .f32 := fun j => X ((halfR u).emb j)

/-- The partial sum a device holds at step `n` in a direction, by halves: its own product at first, then its product
    added to what the device before it held. -/
def acc (b : Bool) : Dev nD → ℕ → Fin 2 → FVec F S1x256x1024 .f32
  | c, 0, u => half u (k0_pay8 (gv m b c 0))
  | c, n + 1, u => accum u (gv m b c (n + 1)) (acc b (nb (!b) c) n u)

/-- A device's largest entry. -/
def lam (c : Dev nD) : F .f32 :=
  lamax (fun b => gv m b c 7) (acc m false (nb true c) 6 0) (acc m true (nb false c) 6 0) (acc m false (nb true c) 6 1) (acc m true (nb false c) 6 1)

/-! ## What is held -/

/-- Device `c` holds a half of a slot at contents `X`, -/
def heldAt (c : Dev nD) (b : Bool) (s : Fin 4) (u : Fin 2) (X : FVec F S1x256x1024 .f32) : sProp 𝕄 :=
  owns (c : Thread nD τ) (piece b s u) fullShare X
/-- or at some contents, -/
def anyAt (c : Dev nD) (b : Bool) (s : Fin 4) (u : Fin 2) : sProp 𝕄 := iprop(∃ X, heldAt (F := F) c b s u X)
/-- or both halves at some contents. -/
def freeAt (c : Dev nD) (b : Bool) (s : Fin 4) : sProp 𝕄 := iprop(anyAt (F := F) c b s 0 ∗ anyAt (F := F) c b s 1)

/-- Row `i` of the gathered entries. -/
abbrev rowR (i : Dev nD) : Rect S8x8x128 := Rect.unit (s := S8x8x128) (k0_off5 i) S1x8x128.size (k0_off5_inb i)
abbrev rowM (i : Dev nD) : Memref sig .tc .vmem S1x8x128 .f32 := amaxBuf.slice (rowR i) (fun _ => rfl)

/-- Device `c` holds its row `i`, every entry of it `a`, -/
def rowAt (c i : Dev nD) (a : F .f32) : sProp 𝕄 := owns (c : Thread nD τ) (rowM i) fullShare (fun _ => a)
/-- or its row `i` at some contents. -/
def anyRow (c i : Dev nD) : sProp 𝕄 := iprop(∃ X, owns (Val := Elt F) (c : Thread nD τ) (rowM i) fullShare X)

/-- The published vector, as its buffer's contents. -/
def lamBuf (c : Dev nD) : Buf (Elt F) (amaxSrc.view.loc (c : Thread nD τ)) := (lamaxV (lam m c) : FVec F S8x128 .f32)

/-- One of eight parts of the published vector. -/
def srcLeaf (c : Dev nD) (i : Fin 8) : sProp 𝕄 :=
  amaxSrc.view.loc (c : Thread nD τ) ↦[amaxSrc.view.set]{ShareLeaves.leaf 3 fullShare i} lamBuf m c

/-- What device `d` needs to send at step `n` in direction `b`: both halves of the receiver's slot, and that the
    receiver is in the round the step belongs to. -/
def rights (d : Dev nD) (b : Bool) (n : ℕ) : sProp 𝕄 :=
  iprop((anyAt (F := F) (nb b d) b (sl (n + 1)) 0 ∗ reached ER (kcell (nb b d) (.recv b (sl (n + 1)) 0)) (n / 4))
    ∗ (anyAt (F := F) (nb b d) b (sl (n + 1)) 1 ∗ reached ER (kcell (nb b d) (.recv b (sl (n + 1)) 1)) (n / 4)))

/-- The rows that travel clockwise: at step `n` those of the device `n + 1` places behind, less the ones kept on the way. -/
def passing (e : Dev nD) (n : ℕ) : sProp 𝕄 := bigSep (Finset.range (7 - n)) fun i => anyRow (F := F) (ahead (7 - n) e) (ahead i e)

/-- An assertion where a condition holds, nothing elsewhere. -/
def onlyIf (p : Prop) [Decidable p] (P : sProp 𝕄) : sProp 𝕄 := if p then P else iprop(emp)
omit [FloatOps F] in
theorem onlyIf_pos {p : Prop} [Decidable p] (h : p) (P : sProp 𝕄) : onlyIf p P = P := if_pos h
omit [FloatOps F] in
theorem onlyIf_neg {p : Prop} [Decidable p] (h : ¬ p) (P : sProp 𝕄) : onlyIf p P = iprop(emp) := if_neg h
omit [FloatOps F] in
instance onlyIf_storable (p : Prop) [Decidable p] (P : sProp 𝕄) [BI.Storable (upEmb : UEmb _ 𝕄) P] : BI.Storable (upEmb : UEmb _ 𝕄) (onlyIf p P) := by
  unfold onlyIf; split <;> infer_instance

/-- What a half brings besides its contents: the first half the right to the next step the other way, and clockwise
    the travelling rows. -/
def extra (e : Dev nD) (b : Bool) (n : ℕ) (u : Fin 2) : sProp 𝕄 :=
  onlyIf (u = 0) iprop(onlyIf (n < 6) (rights (F := F) e (!b) (n + 1)) ∗ onlyIf (b = false) (passing (F := F) e n))

/-- What a half hands over. -/
def hopPay (e : Dev nD) (b : Bool) (n : ℕ) (u : Fin 2) : sProp 𝕄 :=
  iprop(heldAt (F := F) e b (sl (n + 1)) u (acc m b (nb (!b) e) n u) ∗ extra (F := F) e b n u)

/-! ## The schedule -/

/-- The duties of a semaphore's round. -/
def dutiesK (c : Dev nD) : Key → ℕ → Finset ℕ
  | .bar, r => if r = 0 then {0, 1} else ∅
  | .cred _, r => if r = 0 then Finset.range 6 else ∅
  | .send _ s _, r => if 4 * r + s.val < 7 then {0} else ∅
  | .recv _ s _, r => if 4 * r + (s.val + 3) % 4 < 7 then {0} else ∅
  | .asend j, r => if r = 0 ∧ j ≠ 0 then {0} else ∅
  | .arecv i, r => if r = 0 ∧ i ≠ c then {0} else ∅

/-- A duty's amount. -/
def amountK : Key → ℕ
  | .bar => 1 | .cred _ => 1 | .send b _ _ => NP b | .recv b _ _ => NP b | .asend _ => NA | .arecv _ => NA
theorem amountK_pos : ∀ k, 0 < amountK k
  | .bar => Nat.one_pos | .cred _ => Nat.one_pos | .send b _ _ => NP_pos b | .recv b _ _ => NP_pos b | .asend _ => NA_pos | .arecv _ => NA_pos

/-- What a duty hands over. -/
def payK (c : Dev nD) : Key → ℕ → ℕ → sProp 𝕄
  | .bar, _, d => rights (F := F) c (d != 0) 0
  | .cred _, _, _ => iprop(emp)
  | .send b s u, _, _ => anyAt (F := F) c b s u
  | .recv b s u, r, _ => hopPay m c b (4 * r + (s.val + 3) % 4) u
  | .asend j, _, _ => srcLeaf m c j
  | .arecv i, _, _ => rowAt (F := F) c i (lam m i)

omit [FloatOps F] in
instance anyAt_storable (c : Dev nD) (b : Bool) (s : Fin 4) (u : Fin 2) : BI.Storable (upEmb : UEmb _ 𝕄) (anyAt (F := F) c b s u) := by
  unfold anyAt heldAt; infer_instance
omit [FloatOps F] in
instance rights_storable (c : Dev nD) (b : Bool) (n : ℕ) : BI.Storable (upEmb : UEmb _ 𝕄) (rights (F := F) c b n) := by unfold rights; infer_instance
omit [FloatOps F] in
instance passing_storable (c : Dev nD) (n : ℕ) : BI.Storable (upEmb : UEmb _ 𝕄) (passing (F := F) c n) := by unfold passing anyRow; infer_instance
omit [FloatOps F] in
instance extra_storable (c : Dev nD) (b : Bool) (n : ℕ) (u : Fin 2) : BI.Storable (upEmb : UEmb _ 𝕄) (extra (F := F) c b n u) := by
  unfold extra; infer_instance
instance payK_storable (c : Dev nD) (k : Key) (r d : ℕ) : BI.Storable (upEmb : UEmb _ 𝕄) (payK m c k r d) := by
  cases k with
  | bar => show BI.Storable upEmb (rights (F := F) c (d != 0) 0); infer_instance
  | cred b => show BI.Storable upEmb iprop(emp); infer_instance
  | send b s u => show BI.Storable upEmb (anyAt (F := F) c b s u); infer_instance
  | recv b s u => show BI.Storable upEmb (hopPay m c b (4 * r + (s.val + 3) % 4) u); unfold hopPay heldAt; infer_instance
  | asend j => show BI.Storable upEmb (srcLeaf m c j); unfold srcLeaf; infer_instance
  | arecv i => show BI.Storable upEmb (rowAt (F := F) c i (lam m i)); unfold rowAt; infer_instance

/-- The schedule: a TensorCore's named semaphores carry their rounds, every other cell none. -/
def Rd : Rounds.Schedule (GSem nD τ sig) ℕ 𝕄 where
  duties g r := if g.1.2 = .tc then (match keyOf g.2 with | some k => dutiesK g.1.1 k r | none => ∅) else ∅
  unitless _ := False
  amount g _ _ := match keyOf g.2 with | some k => amountK k | none => 1
  payload g r d := match keyOf g.2 with | some k => payK m g.1.1 k r d | none => iprop(emp)
  amount_pos g _ _ _ := by
    cases keyOf g.2 with
    | none => exact Nat.one_pos
    | some k => exact amountK_pos k

instance Rd_payload_storable (g : GSem nD τ sig) (r d : ℕ) : BI.Storable (upEmb : UEmb _ 𝕄) ((Rd m).payload g r d) := by
  show BI.Storable upEmb (match keyOf g.2 with | some k => payK m g.1.1 k r d | none => iprop(emp))
  split <;> infer_instance

theorem Rd_duties (c : Dev nD) (k : Key) (r : ℕ) : (Rd m).duties (kcell c k) r = dutiesK c k r := by
  dsimp only [Rd, kcell]; rw [if_pos rfl, keyOf_kloc]
theorem Rd_amount (c : Dev nD) (k : Key) (r d : ℕ) : (Rd m).amount (kcell c k) r d = amountK k := by
  dsimp only [Rd, kcell]; rw [keyOf_kloc]
theorem Rd_payload (c : Dev nD) (k : Key) (r d : ℕ) : (Rd m).payload (kcell c k) r d = payK m c k r d := by
  dsimp only [Rd, kcell]; rw [keyOf_kloc]
theorem Rd_expect (c : Dev nD) (k : Key) (r : ℕ) : (Rd m).expect (kcell c k) r = (dutiesK c k r).card * amountK k := by
  unfold Schedule.expect Schedule.amountOf
  rw [Rd_duties, Finset.sum_congr rfl fun d _ => Rd_amount m c k r d, Finset.sum_const, smul_eq_mul]

theorem duties_recv (c : Dev nD) (b : Bool) {n : ℕ} (hn : n < 7) (u : Fin 2) : dutiesK c (.recv b (sl (n + 1)) u) (n / 4) = {0} :=
  if_pos (by simp only [sl]; omega)
theorem duties_send (c : Dev nD) (b : Bool) {n : ℕ} (hn : n < 7) (u : Fin 2) : dutiesK c (.send b (sl n) u) (n / 4) = {0} :=
  if_pos (by simp only [sl]; omega)

/-- Every payment is a duty of the cell it raises, and its amount the payment's. -/
theorem Op.dty_mem (op : Op) (d : Dev nD) : op.dty ∈ (Rd m).duties (op.cell d) op.rnd := by
  rw [Op.cell, Rd_duties]
  rcases op with b | ⟨b, s, u⟩ | ⟨b, s⟩ | j
  · cases b <;> simp [dutiesK, Op.key, Op.rnd, Op.dty]
  · show 0 ∈ dutiesK _ (.recv b (sl (s.val + 1)) u) (s.val / 4)
    rw [duties_recv _ _ s.isLt]; exact Finset.mem_singleton_self _
  · show s.val ∈ dutiesK _ (.cred b) 0
    exact Finset.mem_range.mpr s.isLt
  · show 0 ∈ dutiesK (peer j d) (.arecv d) 0
    rw [show dutiesK (peer j d) (.arecv d) 0 = {0} from if_pos ⟨rfl, (peer_ne j d).symm⟩]; exact Finset.mem_singleton_self _
theorem Op.amt_eq (op : Op) (d : Dev nD) : (Rd m).amount (op.cell d) op.rnd op.dty = op.amt := by
  rw [Op.cell, Rd_amount]; cases op <;> rfl

theorem pay_hop (e : Dev nD) (b : Bool) (n : ℕ) (u : Fin 2) : payK m e (.recv b (sl (n + 1)) u) (n / 4) 0 = hopPay m e b n u := by
  show hopPay m e b (4 * (n / 4) + ((n + 1) % 4 + 3) % 4) u = _
  rw [show 4 * (n / 4) + ((n + 1) % 4 + 3) % 4 = n by omega]

/-! ## Waiting -/

/-- A device may wait at a level below those of all its payments still to come. -/
theorem mayWait (c : Dev nD) (sm : SemLoc sig) (i n : ℕ) (hi : i < 101) (h : ∀ op : Op, n ≤ op.tm → i < op.lvl) :
    (levAts L lv : sProp 𝕄) ⊢ MayWait (c : Thread nD τ) sm i (O c n) :=
  MayOwe.of_cut (L := L) (lev := lv) i
    (fun p hp => by rw [Finset.mem_singleton.mp hp, L_tc]; exact Finset.mem_range.mpr hi)
    (fun g u hg => by obtain ⟨op, _, rfl, rfl⟩ := O_pos hg; rw [L_tc]; exact Finset.mem_range.mpr op.lvl_lt)
    (fun p hp => by rw [Finset.mem_singleton.mp hp]; exact Nat.le_refl _)
    (fun g u hg => by obtain ⟨op, hop, rfl, rfl⟩ := O_pos hg; exact h op hop)

end Cert.KernelIdeal.Ring

end
-- ==== Proof.Steps.lean ====
/- One effect of the body at a time: what each of them needs and leaves, over the protocol's records. -/
module

public import proofs.«01_k».proof.Proof.Protocol

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

abbrev 𝒱₀ : Variants := Variants.none

/-- The weakest precondition of a device's program. -/
abbrev WP (c : Dev nD) (p : P) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## Reading back what a transfer wrote -/

/-- What is written through one regrouped view, read through another regrouped alike, is found under the plain view. -/
theorem read_write_reshape {κ κ' : Kind} {sp sp' : Space} {s s' : Shape} {e : EltTy} (v : View sig κ sp s e) (w : View sig κ' sp' s e)
    (h : s'.numel = s.numel) (fd : v.ty.Contents (Elt F)) (fs : w.ty.Contents (Elt F)) :
    v.read (Elt F) ((v.reshape s' h).write (Elt F) fd ((w.reshape s' h).read (Elt F) fs) Finset.univ) = w.read (Elt F) fs := by
  funext y
  have hx := congrFun (View.read_write_univ (Val := Elt F) (v := v.reshape s' h) fd ((w.reshape s' h).read (Elt F) fs)) ((Shape.reshapeEquiv h).symm y)
  simp only [View.read_apply, View.emb_reshape] at hx ⊢
  simpa using hx

/-! ## Records -/

/-- What every device knows: each cell's invariant, that each cell's first round is open, the levels. -/
def recs (K : Dev nD × Key → ℕ) : sProp 𝕄 :=
  iprop((bigSep Finset.univ fun ck : Dev nD × Key => cellInv ER (Rd m) (K ck) (kcell ck.1 ck.2))
    ∗ (bigSep Finset.univ fun ck : Dev nD × Key => reached ER (kcell ck.1 ck.2) 0) ∗ levAts L lv)

instance recs_persistent (K : Dev nD × Key → ℕ) : BI.Persistent (recs m K) := by unfold recs; infer_instance

variable (K : Dev nD × Key → ℕ)

theorem recs_inv (c : Dev nD) (k : Key) : recs m K ⊢ cellInv ER (Rd m) (K (c, k)) (kcell c k) := by
  unfold recs; iintro ⟨H, -, -⟩
  iapply (show (bigSep Finset.univ fun ck : Dev nD × Key => (cellInv ER (Rd m) (K ck) (kcell ck.1 ck.2) : sProp 𝕄)) ⊢ cellInv ER (Rd m) (K (c, k)) (kcell c k)
    from bigSep_elim (Finset.mem_univ (c, k))); iexact H
theorem recs_reached (c : Dev nD) (k : Key) : recs m K ⊢ reached ER (kcell c k) 0 := by
  unfold recs; iintro ⟨-, H, -⟩
  iapply (show (bigSep Finset.univ fun ck : Dev nD × Key => (reached ER (kcell ck.1 ck.2) 0 : sProp 𝕄)) ⊢ reached ER (kcell c k) 0
    from bigSep_elim (Finset.mem_univ (c, k))); iexact H
theorem recs_lev : recs m K ⊢ levAts L lv := by
  unfold recs; iintro ⟨-, -, H⟩; iexact H

/-! ## What is still to be paid -/

/-- The tokens of a payment: its duty's, and for a transfer the one of the own semaphore it raises when it has left. -/
def tok (d : Dev nD) (op : Op) : sProp 𝕄 :=
  iprop(dutyTok ER (op.cell d) op.rnd op.dty ∗ (match op with
    | .hop b s u => dutyTok ER (kcell d (.send b (sl s.val) u)) (s.val / 4) 0
    | .amx j => dutyTok ER (kcell d (.asend j.succ)) 0 0
    | _ => iprop(emp)))

/-- A device's debt from a time on, with its tokens. -/
def debt (d : Dev nD) (n : ℕ) : sProp 𝕄 := iprop((∃ W, owes (d : Thread nD τ) (O d n) W) ∗ bigSep (pending n) (tok (F := F) d))

omit [FloatOps F] in
theorem debt_take (d : Dev nD) (op : Op) : debt (F := F) d op.tm
    ⊢ iprop((∃ W, owes (d : Thread nD τ) (O d (op.tm + 1) + tallyAt (op.cell d) op.lvl op.amt) W) ∗ tok (F := F) d op
      ∗ bigSep (pending (op.tm + 1)) (tok (F := F) d)) := by
  have hs : bigSep (pending op.tm) (tok (F := F) d) = iprop(tok (F := F) d op ∗ bigSep (pending (op.tm + 1)) (tok (F := F) d)) := by
    rw [pending_tm]; exact bigSep_insert (not_mem_pending_succ op)
  unfold debt; rw [O_tm, hs]

/-- A signal pays for `op`. -/
theorem wp_pay (c : Dev nD) (op : Op) (sem : Sem sig) (hk : kloc (op.key c) = .reg sem) (ha : op.amt = 1) (hr : op.rnd = 0)
    {k : P} {Q : PUnit → sProp 𝕄} :
    iprop(recs m K ∗ debt (F := F) c op.tm ∗ payK m (op.tgt c) (op.key c) op.rnd op.dty)
      ⊢ iprop((debt (F := F) c (op.tm + 1) -∗ WP c k Q) -∗ WP c (signalK (op.tgt c) sem k) Q) := by
  have hcell : op.cell c = ((op.tgt c : Thread nD τ), .reg sem) := by unfold Op.cell kcell; rw [hk]
  iintro ⟨#HR, Hd, Hpay⟩ Hk
  ihave Hd := (debt_take c op) $$ Hd
  icases Hd with ⟨⟨%W, Ho⟩, Ht, Hr⟩
  unfold tok
  icases Ht with ⟨Ht, -⟩
  unfold signalK
  iapply (Rounds.wp_signal 𝒱₀ ER (Rd m) (c : Thread nD τ) none (dst := (op.tgt c : Thread nD τ)) (sem := sem) (r := op.rnd) (d := op.dty) (κ := K (op.tgt c, op.key c))
      (by rw [← hcell]; exact op.dty_mem m c) (by rw [← hcell, op.amt_eq m c, ha]; rfl) op.lvl (O c (op.tm + 1)) (by rw [← hcell]) (W := W))
    $$ [Ho Ht Hpay]
  · rw [← hcell]
    isplitr; · iapply (recs_inv m K (op.tgt c) (op.key c)); iexact HR
    isplitl [Ho]; · rw [ha]; iexact Ho
    isplitl [Ht]; · iexact Ht
    isplitl [Hpay]; · rw [Rd_payload]; iexact Hpay
    rw [hr]; iapply (recs_reached m K (op.tgt c) (op.key c)); iexact HR
  iintro Ho
  iapply Hk
  unfold debt
  isplitl [Ho]; · iexists W; iexact Ho
  iexact Hr

/-! ## Positions -/

/-- The owner's positions at four cells visited in turn, `n` visits made. -/
def chain (g : Fin 4 → GSem nD τ sig) (n : ℕ) : sProp 𝕄 :=
  bigSep Finset.univ fun i : Fin 4 => iprop(atPos ER (g i) ((n + 3 - i.val) / 4) ∅ 0 ∗ reached ER (g i) ((n + 3 - i.val) / 4))

omit [FloatOps F] in
/-- The next visit: the position of the cell whose turn it is, and the chain once it has moved on. -/
theorem chain_take (g : Fin 4 → GSem nD τ sig) (n : ℕ) : chain (F := F) g n
    ⊢ iprop(atPos ER (g (sl n)) (n / 4) ∅ 0 ∗ (iprop(atPos ER (g (sl n)) (n / 4 + 1) ∅ 0 ∗ reached ER (g (sl n)) (n / 4 + 1)) -∗ chain (F := F) g (n + 1))) := by
  have hs (k : ℕ) : chain (F := F) g k = iprop(iprop(atPos ER (g (sl n)) ((k + 3 - (sl n).val) / 4) ∅ 0 ∗ reached ER (g (sl n)) ((k + 3 - (sl n).val) / 4))
      ∗ bigSep (Finset.univ.erase (sl n)) fun i : Fin 4 => iprop(atPos ER (g i) ((k + 3 - i.val) / 4) ∅ 0 ∗ reached ER (g i) ((k + 3 - i.val) / 4))) :=
    bigSep_univ_at _ (sl n)
  have hr : (bigSep (Finset.univ.erase (sl n)) fun i : Fin 4 => (iprop(atPos ER (g i) ((n + 3 - i.val) / 4) ∅ 0 ∗ reached ER (g i) ((n + 3 - i.val) / 4)) : sProp 𝕄))
      = bigSep (Finset.univ.erase (sl n)) fun i : Fin 4 => iprop(atPos ER (g i) ((n + 1 + 3 - i.val) / 4) ∅ 0 ∗ reached ER (g i) ((n + 1 + 3 - i.val) / 4)) :=
    bigSep_congr fun i hi => by
      have h1 : i.val ≠ n % 4 := fun h => (Finset.mem_erase.mp hi).1 (Fin.ext h)
      rw [show (n + 3 - i.val) / 4 = (n + 1 + 3 - i.val) / 4 by omega]
  rw [hs n, hs (n + 1), hr, show (n + 3 - (sl n).val) / 4 = n / 4 by simp only [sl]; omega, show (n + 1 + 3 - (sl n).val) / 4 = n / 4 + 1 by simp only [sl]; omega]
  iintro ⟨⟨H, -⟩, Hr⟩
  isplitl [H]; · iexact H
  iintro H
  isplitl [H] <;> iassumption

omit [FloatOps F] in
/-- A round the chain has reached. -/
theorem chain_reached (g : Fin 4 → GSem nD τ sig) (n : ℕ) (i : Fin 4) (r : ℕ) (h : r ≤ (n + 3 - i.val) / 4) :
    chain (F := F) g n ⊢ iprop(chain (F := F) g n ∗ reached ER (g i) r) := by
  have hs : chain (F := F) g n = iprop(iprop(atPos ER (g i) ((n + 3 - i.val) / 4) ∅ 0 ∗ reached ER (g i) ((n + 3 - i.val) / 4))
      ∗ bigSep (Finset.univ.erase i) fun i : Fin 4 => iprop(atPos ER (g i) ((n + 3 - i.val) / 4) ∅ 0 ∗ reached ER (g i) ((n + 3 - i.val) / 4))) :=
    bigSep_univ_at _ i
  rw [hs]
  iintro ⟨⟨H, #Hc⟩, Hr⟩
  isplitl [H Hr]
  · isplitl [H]
    · isplitl [H]; · iexact H
      iexact Hc
    iexact Hr
  · iapply (reached_mono ER h); iexact Hc

omit [FloatOps F] in
/-- Tokens kept in order: the next one and the later ones. -/
theorem ico_take (Φ : ℕ → sProp 𝕄) {n N : ℕ} (h : n < N) : bigSep (Finset.Ico n N) Φ = iprop(Φ n ∗ bigSep (Finset.Ico (n + 1) N) Φ) := by
  rw [show Finset.Ico n N = insert n (Finset.Ico (n + 1) N) by ext i; simp only [Finset.mem_insert, Finset.mem_Ico]; omega]
  exact bigSep_insert (by simp)

theorem sl_sl (n : ℕ) : sl ((sl n).val + 1) = sl (n + 1) := Fin.ext (by simp only [sl]; omega)

/-- The arrivals of a direction's halves still to come, `n` of them in. -/
def arrivals (c : Dev nD) (b : Bool) (u : Fin 2) (n : ℕ) : sProp 𝕄 :=
  iprop(chain (F := F) (fun i => kcell c (.recv b (sl (i.val + 1)) u)) n
    ∗ bigSep (Finset.Ico n 7) fun s => cred (tallyAt (kcell c (.recv b (sl (s + 1)) u)) (4 * s + 4) (NP b)))

/-- The departures of a direction's halves, `n` of them over. -/
def departures (c : Dev nD) (b : Bool) (u : Fin 2) (n : ℕ) : sProp 𝕄 := chain (F := F) (fun i => kcell c (.send b i u)) n

/-- A half sent at step `n` is on its way. -/
def gone (c : Dev nD) (b : Bool) (n : ℕ) (u : Fin 2) : sProp 𝕄 := cred (tallyAt (kcell c (.send b (sl n) u)) 0 (NP b))

/-- The credits of a direction, `n` of them used. -/
def credits (c : Dev nD) (b : Bool) (n : ℕ) : sProp 𝕄 :=
  iprop((if n < 6 then iprop(∃ S, atPos ER (kcell c (.cred b)) 0 S n) else atPos ER (kcell c (.cred b)) 1 ∅ 0)
    ∗ bigSep (Finset.Ico n 6) fun s => cred (tallyAt (kcell c (.cred b)) (4 * s + 6) 1))

/-! ## Waits -/

/-- Everything owed from time `t` on lies above level `i`. -/
def Above (i t : ℕ) : Prop := ∀ op : Op, t ≤ op.tm → i < op.lvl

/-- A wait for one whole round with one duty. -/
theorem wp_wait_one (c : Dev nD) (key : Key) (r i t : ℕ) (k' : ℕ) (ha : Above i t) (hi : i < 101)
    (hduty : dutiesK c key r = {0}) (hk : k' = amountK key)
    {w : TpuEff nD τ sig (Elt F) Λ₀ Proc.tc PUnit}
    (hw : ∀ K : PUnit → sProp 𝕄, wpE (defs₀ (F := F)) 𝒱₀ (c : Thread nD τ) none Set.univ w K = waitSpec (c : Thread nD τ) Set.univ (kloc key) k' K)
    {k : PUnit → P} {Q : PUnit → sProp 𝕄} :
    iprop(recs m K ∗ debt (F := F) c t ∗ cred (tallyAt (kcell c key) i (amountK key)) ∗ atPos ER (kcell c key) r ∅ 0)
      ⊢ iprop(((debt (F := F) c t ∗ atPos ER (kcell c key) (r + 1) ∅ 0 ∗ reached ER (kcell c key) (r + 1) ∗ payK m c key r 0) -∗ WP c (k ⟨⟩) Q)
        -∗ WP c (.op w k) Q) := by
  subst hk
  unfold debt
  iintro ⟨#HR, ⟨⟨%W, Ho⟩, Ht⟩, Hc, Hat⟩ Hk
  iapply (Rounds.wp_wait_rest_token 𝒱₀ ER (Rd m) (c : Thread nD τ) none (κ := K (c, key)) hw (Set.mem_univ _) i (O := O c t) (W := W) (R := r) (m := 0) (T := ∅)
      (by rw [Rd_expect, hduty, Finset.card_singleton, one_mul, zero_add])) $$ [Hc Ho Hat]
  · isplitr; · iapply (recs_inv m K c key); iexact HR
    isplitl [Hc]; · iexact Hc
    isplitl [Ho]; · iexact Ho
    isplitr; · iapply (mayWait c (kloc key) i t hi ha); iapply (recs_lev m K); iexact HR
    iexact Hat
  iintro ⟨Ho, Hat, Hr, Hpay⟩
  iapply Hk
  isplitl [Ho Ht]
  · isplitl [Ho]; · iexists _; iexact Ho
    iexact Ht
  isplitl [Hat]; · iexact Hat
  isplitl [Hr]; · iexact Hr
  ihave Hp := (Entails.of_eq (show bigSep ((Rd m).duties (kcell c key) r \ ∅) (fun d => (Rd m).payload (kcell c key) r d) = payK m c key r 0 by
    rw [Finset.sdiff_empty, Rd_duties, hduty, bigSep_singleton, Rd_payload])) $$ Hpay
  iexact Hp

/-- The half of step `n` arrives. -/
theorem wp_arrive (c : Dev nD) (b : Bool) (n : ℕ) (u : Fin 2) (t : ℕ) (hn : n < 7) (ha : Above (4 * n + 4) t) {k : P} {Q : PUnit → sProp 𝕄} :
    iprop(recs m K ∗ debt (F := F) c t ∗ arrivals (F := F) c b u n)
      ⊢ iprop(((debt (F := F) c t ∗ arrivals (F := F) c b u (n + 1) ∗ hopPay m c b n u) -∗ WP c k Q) -∗ WP c (arriveK b n u k) Q) := by
  unfold arrivals
  rw [ico_take _ hn]
  iintro ⟨#HR, Hd, Hch, Hc, Hcr⟩ Hk
  ihave Hch := (chain_take (F := F) (fun i => kcell c (.recv b (sl (i.val + 1)) u)) n) $$ Hch
  simp only [sl_sl]
  icases Hch with ⟨Hat, Hch⟩
  unfold arriveK
  iapply (wp_wait_one m K c (.recv b (sl (n + 1)) u) (n / 4) (4 * n + 4) t (NP b) ha (by omega) (duties_recv c b hn u) rfl
    (fun _ => rfl)) $$ [Hd Hc Hat]
  · isplitr; · iexact HR
    isplitl [Hd]; · iexact Hd
    isplitl [Hc]; · iexact Hc
    iexact Hat
  iintro ⟨Hd, Hat, Hr, Hpay⟩
  iapply Hk
  isplitl [Hd]; · iexact Hd
  isplitr [Hpay]
  · isplitl [Hch Hat Hr]
    · iapply Hch
      isplitl [Hat] <;> iassumption
    iexact Hcr
  ihave Hp := (Entails.of_eq (pay_hop m c b n u)) $$ Hpay
  iexact Hp

/-- The half sent at step `n` has left: its place is free again. -/
theorem wp_depart (c : Dev nD) (b : Bool) (n : ℕ) (u : Fin 2) (t : ℕ) (hn : n < 7) (ha : Above 0 t) {k : P} {Q : PUnit → sProp 𝕄} :
    iprop(recs m K ∗ debt (F := F) c t ∗ departures (F := F) c b u n ∗ gone (F := F) c b n u)
      ⊢ iprop(((debt (F := F) c t ∗ departures (F := F) c b u (n + 1) ∗ anyAt (F := F) c b (sl n) u) -∗ WP c k Q) -∗ WP c (departK b n u k) Q) := by
  unfold departures gone
  iintro ⟨#HR, Hd, Hch, Hc⟩ Hk
  ihave Hch := (chain_take (F := F) (fun i => kcell c (.send b i u)) n) $$ Hch
  icases Hch with ⟨Hat, Hch⟩
  unfold departK
  iapply (wp_wait_one m K c (.send b (sl n) u) (n / 4) 0 t (NP b) ha (by omega) (duties_send c b hn u) rfl
    (fun _ => rfl)) $$ [Hd Hc Hat]
  · isplitr; · iexact HR
    isplitl [Hd]; · iexact Hd
    isplitl [Hc]; · iexact Hc
    iexact Hat
  iintro ⟨Hd, Hat, Hr, Hpay⟩
  iapply Hk
  isplitl [Hd]; · iexact Hd
  isplitr [Hpay]
  · iapply Hch
    isplitl [Hat] <;> iassumption
  ihave Hp := (Entails.of_eq (show payK m c (.send b (sl n) u) (n / 4) 0 = anyAt (F := F) c b (sl n) u from rfl)) $$ Hpay
  iexact Hp

/-- The next credit is awaited. -/
theorem wp_credit (c : Dev nD) (b : Bool) (n t : ℕ) (hn : n < 6) (ha : Above (4 * n + 6) t) {k : P} {Q : PUnit → sProp 𝕄} :
    iprop(recs m K ∗ debt (F := F) c t ∗ credits (F := F) c b n)
      ⊢ iprop(((debt (F := F) c t ∗ credits (F := F) c b (n + 1)) -∗ WP c k Q) -∗ WP c (waitK (credSem b) 1#32 k) Q) := by
  unfold credits debt
  rw [ico_take _ hn, if_pos hn]
  iintro ⟨#HR, ⟨⟨%W, Ho⟩, Ht⟩, ⟨%S, Hat⟩, Hc, Hcr⟩ Hk
  unfold waitK
  by_cases h5 : n + 1 < 6
  · rw [if_pos h5]
    iapply (Rounds.wp_wait 𝒱₀ ER (Rd m) (c : Thread nD τ) none (κ := K (c, .cred b)) (wpE_semWait_eq 𝒱₀ (c : Thread nD τ) none Set.univ) (Set.mem_univ _)
        (cr := Finsupp.single (4 * n + 6) 1) (O := O c t) (W := W) {(SemLoc.reg (credSem b), 4 * n + 6)} (R := 0) (m := n) (T := S)
        (by rw [Util.total_single]; rfl) (image_single_subset _ _ _)) $$ [Hc Ho Hat]
    · isplitr; · iapply (recs_inv m K c (.cred b)); iexact HR
      isplitl [Hc]; · iexact Hc
      isplitl [Ho]; · iexact Ho
      isplitr; · iapply (mayWait c (.reg (credSem b)) (4 * n + 6) t (by omega) ha); iapply (recs_lev m K); iexact HR
      iexact Hat
    iintro %S' ⟨-, Ho, Hat, -⟩
    iapply Hk
    isplitl [Ho Ht]
    · isplitl [Ho]; · iexists _; iexact Ho
      iexact Ht
    isplitl [Hat]; · iexists S'; iexact Hat
    iexact Hcr
  · rw [if_neg h5]
    obtain rfl : n = 5 := by omega
    iapply (Rounds.wp_wait_rest_token 𝒱₀ ER (Rd m) (c : Thread nD τ) none (κ := K (c, .cred b)) (wpE_semWait_eq 𝒱₀ (c : Thread nD τ) none Set.univ) (Set.mem_univ _)
        26 (O := O c t) (W := W) (R := 0) (m := 5) (T := S) (by rw [show ((c : Thread nD τ), SemLoc.reg (credSem b)) = kcell c (.cred b) from rfl, Rd_expect]; rfl)) $$ [Hc Ho Hat]
    · isplitr; · iapply (recs_inv m K c (.cred b)); iexact HR
      isplitl [Hc]; · iexact Hc
      isplitl [Ho]; · iexact Ho
      isplitr; · iapply (mayWait c (.reg (credSem b)) 26 t (by omega) ha); iapply (recs_lev m K); iexact HR
      iexact Hat
    iintro ⟨Ho, Hat, -, -⟩
    iapply Hk
    isplitl [Ho Ht]
    · isplitl [Ho]; · iexists _; iexact Ho
      iexact Ht
    isplitl [Hat]; · iexact Hat
    iexact Hcr

/-- The barrier: both neighbours have signalled, and with that lent their first slots. -/
theorem wp_barrier (c : Dev nD) (t : ℕ) (ha : Above 1 t) {k : P} {Q : PUnit → sProp 𝕄} :
    iprop(recs m K ∗ debt (F := F) c t ∗ cred (tallyAt (kcell c .bar) 1 1) ∗ cred (tallyAt (kcell c .bar) 1 1) ∗ atPos ER (kcell c .bar) 0 ∅ 0)
      ⊢ iprop(((debt (F := F) c t ∗ atPos ER (kcell c .bar) 1 ∅ 0 ∗ rights (F := F) c false 0 ∗ rights (F := F) c true 0) -∗ WP c k Q)
        -∗ WP c (waitK barSem 2#32 k) Q) := by
  unfold debt
  iintro ⟨#HR, ⟨⟨%W, Ho⟩, Ht⟩, Hc, Hc', Hat⟩ Hk
  unfold waitK
  iapply (Rounds.wp_wait_rest_token 𝒱₀ ER (Rd m) (c : Thread nD τ) none (κ := K (c, .bar)) (wpE_semWait_eq 𝒱₀ (c : Thread nD τ) none Set.univ) (Set.mem_univ _)
      1 (O := O c t) (W := W) (R := 0) (m := 0) (T := ∅) (by rw [show ((c : Thread nD τ), SemLoc.reg barSem) = kcell c .bar from rfl, Rd_expect]; rfl)) $$ [Hc Hc' Ho Hat]
  · isplitr; · iapply (recs_inv m K c .bar); iexact HR
    isplitl [Hc Hc']
    · ihave Hcc := (show iprop(cred (tallyAt (kcell c .bar) 1 1) ∗ cred (tallyAt (kcell c .bar) 1 1)) ⊢ (cred (tallyAt (kcell c .bar) 1 (1 + 1)) : sProp 𝕄) by
        rw [← tallyAt_add]; exact (cred_add _ _).2) $$ [Hc Hc']
      · isplitl [Hc]
        · iexact Hc
        · iexact Hc'
      iexact Hcc
    isplitl [Ho]; · iexact Ho
    isplitr; · iapply (mayWait c (.reg barSem) 1 t (by omega) ha); iapply (recs_lev m K); iexact HR
    iexact Hat
  iintro ⟨Ho, Hat, -, Hpay⟩
  iapply Hk
  isplitl [Ho Ht]
  · isplitl [Ho]; · iexists _; iexact Ho
    iexact Ht
  isplitl [Hat]; · iexact Hat
  ihave Hp := (Entails.of_eq (show bigSep ((Rd m).duties ((c : Thread nD τ), SemLoc.reg barSem) 0 \ ∅) (fun d => (Rd m).payload ((c : Thread nD τ), SemLoc.reg barSem) 0 d)
      = iprop(rights (F := F) c false 0 ∗ rights (F := F) c true 0) by
    rw [show ((c : Thread nD τ), SemLoc.reg barSem) = kcell c .bar from rfl, Finset.sdiff_empty, Rd_duties, show dutiesK c .bar 0 = {0, 1} from rfl, bigSep_insert (by decide), bigSep_singleton, Rd_payload, Rd_payload]; rfl)) $$ Hpay
  iexact Hp

end Cert.KernelIdeal.Ring

end
-- ==== Proof.Moves.lean ====
/- The moves of a ring step: a half is sent, taken in, and the products are formed. -/
module

public import proofs.«01_k».proof.Proof.Steps

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-! ## Sending a half -/

/-- The elements of a half are the same whether it is named with its unit axis or without. -/
theorem flat_pts (c : Dev nD) (b : Bool) (s : Fin 4) (u : Fin 2) (f : Buf (Elt F) ((piece b s u).view.loc (c : Thread nD τ))) :
    (((flat b s u).view.loc (c : Thread nD τ) ↦[(flat b s u).view.set]{fullShare} f : sProp 𝕄))
      = ((piece b s u).view.loc (c : Thread nD τ) ↦[(piece b s u).view.set]{fullShare} f) :=
  congrArg (fun S => (((piece b s u).view.loc (c : Thread nD τ) ↦[S]{fullShare} f : sProp 𝕄)))
    (View.set_reshape (piece b s u).view squeezes_S1x256x1024_S256x1024.numel_eq)

/-- A half is held by its elements, named as the transfers do. -/
theorem held_raw (c : Dev nD) (b : Bool) (s : Fin 4) (u : Fin 2) (f : Buf (Elt F) ((flat b s u).view.loc (c : Thread nD τ))) :
    ((flat b s u).view.loc (c : Thread nD τ) ↦[(flat b s u).view.set]{fullShare} f) ⊢ anyAt (F := F) c b s u := by
  unfold anyAt heldAt
  have h := owns_intro (Ix := ℕ) (Name := ℕ) (U := UU) (Lvl := ℕ) (c : Thread nD τ) (piece b s u) fullShare f
  rw [flat_pts]
  iintro H
  iexists ((piece b s u).view.read (Elt F) f)
  iapply h
  iexact H

/-- What a transfer leaves at the receiver is the half it read at the sender. -/
theorem held_sent (e : Dev nD) (b : Bool) (s s' : Fin 4) (u : Fin 2) (X : FVec F S1x256x1024 .f32) (R : sProp 𝕄)
    (fs : (flat b s u).view.ty.Contents (Elt F)) (fd : Buf (Elt F) ((flat b s' u).view.loc (e : Thread nD τ)))
    (h : (piece b s u).view.read (Elt F) fs = X) :
    iprop(((flat b s' u).view.loc (e : Thread nD τ) ↦[(flat b s' u).view.set]{fullShare}
        ((flat b s' u).view.write (Elt F) fd ((flat b s u).view.read (Elt F) fs) Finset.univ)) ∗ R)
      ⊢ iprop(heldAt (F := F) e b s' u X ∗ R) := by
  have h1 := (read_write_reshape (piece b s' u).view (piece b s u).view squeezes_S1x256x1024_S256x1024.numel_eq fd fs).trans h
  have h2 := owns_intro (Ix := ℕ) (Name := ℕ) (U := UU) (Lvl := ℕ) (e : Thread nD τ) (piece b s' u) fullShare
    ((flat b s' u).view.write (Elt F) fd ((flat b s u).view.read (Elt F) fs) Finset.univ)
  have h3 : ((flat b s' u).view.loc (e : Thread nD τ) ↦[(flat b s' u).view.set]{fullShare}
        ((flat b s' u).view.write (Elt F) fd ((flat b s u).view.read (Elt F) fs) Finset.univ)) ⊢ heldAt (F := F) e b s' u X := by
    rw [flat_pts]; unfold heldAt; rw [← h1]; exact h2
  exact sep_mono_left h3

/-- The transfer of a half, over the elements. -/
theorem wp_send_raw (c : Dev nD) (b : Bool) (n : ℕ) (u : Fin 2) (hn : n < 7) {k : P} {Q : PUnit → sProp 𝕄}
    (fs : Buf (Elt F) ((flat b (sl n) u).view.loc (c : Thread nD τ))) (fd : Buf (Elt F) ((flat b (sl (n + 1)) u).view.loc (nb b c : Thread nD τ)))
    (hfs : (piece b (sl n) u).view.read (Elt F) fs = acc m b c n u) (O' : CellTallies nD τ sig ℕ) (W : Waits sig ℕ) :
    iprop(cellInv ER (Rd m) (K (c, .send b (sl n) u)) (kcell c (.send b (sl n) u))
        ∗ cellInv ER (Rd m) (K (nb b c, .recv b (sl (n + 1)) u)) (kcell (nb b c) (.recv b (sl (n + 1)) u))
        ∗ ((flat b (sl n) u).view.loc (c : Thread nD τ) ↦[(flat b (sl n) u).view.set]{fullShare} fs)
        ∗ (((flat b (sl (n + 1)) u).view.loc (nb b c : Thread nD τ) ↦[(flat b (sl (n + 1)) u).view.set]{fullShare} fd) ∗ extra (F := F) (nb b c) b n u)
        ∗ owes (c : Thread nD τ) (O' + tallyAt (kcell (nb b c) (.recv b (sl (n + 1)) u)) (4 * n + 4) (NP b)) W
        ∗ dutyTok ER (kcell c (.send b (sl n) u)) (n / 4) 0 ∗ reached ER (kcell c (.send b (sl n) u)) (n / 4)
        ∗ dutyTok ER (kcell (nb b c) (.recv b (sl (n + 1)) u)) (n / 4) 0 ∗ reached ER (kcell (nb b c) (.recv b (sl (n + 1)) u)) (n / 4))
      ⊢ iprop(((cred (tallyAt (kcell c (.send b (sl n) u)) 0 (NP b)) ∗ owes (c : Thread nD τ) O' W) -∗ WP c k Q) -∗ WP c (sendK b n u c k) Q) := by
  unfold sendK
  exact Rounds.wp_send_pointsTo_with 𝒱₀ ER (Rd m) (c : Thread nD τ) none (c' := (nb b c : Thread nD τ)) (src := flat b (sl n) u) (dst := flat b (sl (n + 1)) u)
      (sS := .dma (sendSem b (sl n) u)) (sem := .dma (recvSem b (sl (n + 1)) u)) (r₁ := n / 4) (r₂ := n / 4) (d₁ := 0) (d₂ := 0)
      (k := fun _ => k) (Q := Q) (κ₁ := K (c, .send b (sl n) u)) (κ₂ := K (nb b c, .recv b (sl (n + 1)) u)) (W := W) (Es := Set.univ)
      (show 0 ∈ (Rd m).duties (kcell c (.send b (sl n) u)) (n / 4) by rw [Rd_duties, duties_send _ _ hn]; exact Finset.mem_singleton_self _)
      (show 0 ∈ (Rd m).duties (kcell (nb b c) (.recv b (sl (n + 1)) u)) (n / 4) by rw [Rd_duties, duties_recv _ _ hn]; exact Finset.mem_singleton_self _)
      (4 * n + 4) 0 (NP b) (by cases b <;> rfl)
      (Rd_amount m c (.send b (sl n) u) (n / 4) 0) (Rd_amount m (nb b c) (.recv b (sl (n + 1)) u) (n / 4) 0)
      O' rfl
      ((held_raw c b (sl n) u fs).trans (Entails.of_eq (Rd_payload m c (.send b (sl n) u) (n / 4) 0).symm))
      ((held_sent (nb b c) b (sl n) (sl (n + 1)) u (acc m b c n u) (extra (F := F) (nb b c) b n u) fs fd hfs).trans
        (Entails.of_eq (by
          refine Eq.trans ?_ (Rd_payload m (nb b c) (.recv b (sl (n + 1)) u) (n / 4) 0).symm
          rw [pay_hop]; unfold hopPay; rw [nb_nb'])))

/-- A half at the step's partial sum is sent: with it goes whatever else its payload holds. -/
theorem wp_send (c : Dev nD) (b : Bool) (n : ℕ) (u : Fin 2) (hn : n < 7) {k : P} {Q : PUnit → sProp 𝕄} :
    iprop(recs m K ∗ debt (F := F) c (2 + 6 * n + 2 * u.val + b.toNat) ∗ heldAt (F := F) c b (sl n) u (acc m b c n u)
        ∗ (anyAt (F := F) (nb b c) b (sl (n + 1)) u ∗ reached ER (kcell (nb b c) (.recv b (sl (n + 1)) u)) (n / 4))
        ∗ reached ER (kcell c (.send b (sl n) u)) (n / 4) ∗ extra (F := F) (nb b c) b n u)
      ⊢ iprop(((debt (F := F) c (2 + 6 * n + 2 * u.val + b.toNat + 1) ∗ gone (F := F) c b n u) -∗ WP c k Q) -∗ WP c (sendK b n u c k) Q) := by
  have ht : debt (F := F) c (2 + 6 * n + 2 * u.val + b.toNat)
      ⊢ iprop((∃ W, owes (c : Thread nD τ) (O c (2 + 6 * n + 2 * u.val + b.toNat + 1) + tallyAt (kcell (nb b c) (.recv b (sl (n + 1)) u)) (4 * n + 4) (NP b)) W)
        ∗ iprop(dutyTok ER (kcell (nb b c) (.recv b (sl (n + 1)) u)) (n / 4) 0 ∗ dutyTok ER (kcell c (.send b (sl n) u)) (n / 4) 0)
        ∗ bigSep (pending (2 + 6 * n + 2 * u.val + b.toNat + 1)) (tok (F := F) c)) := debt_take (F := F) c (.hop b ⟨n, hn⟩ u)
  iintro ⟨#HR, Hd, Hsrc, ⟨Hdst, #Hr2⟩, #Hr1, Hex⟩ Hk
  ihave Hd := ht $$ Hd
  icases Hd with ⟨⟨%W, Ho⟩, ⟨Ht, Hts⟩, Hr⟩
  unfold heldAt anyAt owns
  icases Hsrc with ⟨%fs, %hfs, Hs⟩
  icases Hdst with ⟨%X, Hdst⟩
  unfold heldAt owns
  icases Hdst with ⟨%fd, %hfd, Hdd⟩
  iapply (wp_send_raw m K c b n u hn fs fd hfs (O c (2 + 6 * n + 2 * u.val + b.toNat + 1)) W) $$ [Ho Ht Hts Hs Hdd Hex]
  · isplitr; · iapply (recs_inv m K c (.send b (sl n) u)); iexact HR
    isplitr; · iapply (recs_inv m K (nb b c) (.recv b (sl (n + 1)) u)); iexact HR
    isplitl [Hs]; · iapply (Entails.of_eq (flat_pts (F := F) c b (sl n) u fs).symm); iexact Hs
    isplitl [Hdd Hex]
    · isplitl [Hdd]; · iapply (Entails.of_eq (flat_pts (F := F) (nb b c) b (sl (n + 1)) u fd).symm); iexact Hdd
      iexact Hex
    isplitl [Ho]; · iexact Ho
    isplitl [Hts]; · iexact Hts
    isplitr; · iexact Hr1
    isplitl [Ht]; · iexact Ht
    iexact Hr2
  iintro ⟨Hc, Ho⟩
  iapply Hk
  isplitr [Hc]
  · unfold debt
    isplitl [Ho]; · iexists W; iexact Ho
    iexact Hr
  unfold gone
  iexact Hc

/-! ## Reading and writing a half -/

/-- A half that is held is read. -/
theorem wp_read (c : Dev nD) (b : Bool) (s : Fin 4) (u : Fin 2) (X : FVec F S1x256x1024 .f32) {k : Vec F S1x256x1024 .f32 → P} {Q : PUnit → sProp 𝕄} :
    heldAt (F := F) c b s u X ⊢ iprop((heldAt (F := F) c b s u X -∗ WP c (k X) Q) -∗ WP c (readK b s u k) Q) := by
  unfold heldAt owns
  iintro ⟨%f, %hf, H⟩ Hk
  unfold readK
  iapply (wp_load_rect 𝒱₀ (c : Thread nD τ) none Set.univ (m := comm b) (r := pieceR s u) (S := (piece b s u).view.set) (Finset.Subset.refl _)) $$ H
  iintro H
  rw [show ((comm b).access (pieceR s u)).read (Elt F) f = X from hf]
  iapply Hk
  iexists f
  isplitr; · ipureintro; exact hf
  iexact H

/-- A half that is held is overwritten. -/
theorem wp_write (c : Dev nD) (b : Bool) (s : Fin 4) (u : Fin 2) (X v : FVec F S1x256x1024 .f32) {k : P} {Q : PUnit → sProp 𝕄} :
    heldAt (F := F) c b s u X ⊢ iprop((heldAt (F := F) c b s u v -∗ WP c k Q) -∗ WP c (writeK b s u v k) Q) := by
  unfold heldAt owns
  iintro ⟨%f, %hf, H⟩ Hk
  unfold writeK
  iapply (wp_store 𝒱₀ (c : Thread nD τ) none Set.univ (m := comm b) (r := pieceR s u) (Mk := Finset.univ) (S := (piece b s u).view.set) (Finset.Subset.refl _)) $$ H
  iintro H
  iapply Hk
  iexists _
  isplitr
  · ipureintro; exact View.read_write_univ (Val := Elt F) (v := (piece b s u).view) f v
  iexact H

/-- What arrives at a step is taken in: the half then holds the next partial sum. -/
theorem wp_take (c : Dev nD) (b : Bool) (n : ℕ) (u : Fin 2) (t : ℕ) (hn : n < 7) (ha : Above (4 * n + 4) t)
    {k : Vec F S1x256x1024 .f32 → P} {Q : PUnit → sProp 𝕄} :
    iprop(recs m K ∗ debt (F := F) c t ∗ arrivals (F := F) c b u n)
      ⊢ iprop(((debt (F := F) c t ∗ arrivals (F := F) c b u (n + 1) ∗ heldAt (F := F) c b (sl (n + 1)) u (acc m b c (n + 1) u) ∗ extra (F := F) c b n u)
          -∗ WP c (k (acc m b (nb (!b) c) n u)) Q) -∗ WP c (takeK b n u (gv m b c (n + 1)) k) Q) := by
  iintro ⟨#HR, Hd, Har⟩ Hk
  unfold takeK
  iapply (wp_arrive m K c b n u t hn ha) $$ [Hd Har]
  · isplitr; · iexact HR
    isplitl [Hd]; · iexact Hd
    iexact Har
  unfold hopPay
  iintro ⟨Hd, Har, Hh, Hx⟩
  iapply (wp_read c b (sl (n + 1)) u (acc m b (nb (!b) c) n u)) $$ Hh
  iintro Hh
  iapply (wp_read c b (sl (n + 1)) u (acc m b (nb (!b) c) n u)) $$ Hh
  iintro Hh
  iapply (wp_write c b (sl (n + 1)) u (acc m b (nb (!b) c) n u) (accum u (gv m b c (n + 1)) (acc m b (nb (!b) c) n u))) $$ Hh
  iintro Hh
  iapply Hk
  isplitl [Hd]; · iexact Hd
  isplitl [Har]; · iexact Har
  isplitl [Hh]
  · ihave Hp := (Entails.of_eq (show heldAt (F := F) c b (sl (n + 1)) u (accum u (gv m b c (n + 1)) (acc m b (nb (!b) c) n u))
      = heldAt (F := F) c b (sl (n + 1)) u (acc m b c (n + 1) u) from rfl)) $$ Hh
    iexact Hp
  iexact Hx

/-! ## The products -/

/-- The staged operands, as a device holds them. -/
def staged (c : Dev nD) : sProp 𝕄 :=
  iprop((xs.view.loc (c : Thread nD τ) ↦[Finset.univ]{fullShare} xstg m c) ∗ (ws.view.loc (c : Thread nD τ) ↦[Finset.univ]{fullShare} wstg m c))

/-- One product is formed. -/
theorem wp_mul (c : Dev nD) (b : Bool) (off : Fin 2 → Nat) (inb : ∀ a, off a + S512x512.size a ≤ S4096x512.size a)
    {k : FVec F S512x1024 .f32 → P} {Q : PUnit → sProp 𝕄} :
    staged m c ⊢ iprop((staged m c -∗ WP c (k (mulV m b c off inb)) Q) -∗ WP c (mulK b off inb k) Q) := by
  unfold staged
  iintro ⟨Hx, Hw⟩ Hk
  unfold mulK
  iapply (wp_load 𝒱₀ (c : Thread nD τ) none Set.univ (m := xs) (S := Finset.univ) (q := fullShare) (f := xstg m c) (Finset.subset_univ _)) $$ Hx
  iintro Hx
  iapply (wp_load 𝒱₀ (c : Thread nD τ) none Set.univ (m := ws) (S := Finset.univ) (q := fullShare) (f := wstg m c) (Finset.subset_univ _)) $$ Hw
  iintro Hw
  iapply Hk
  isplitl [Hx] <;> iassumption

/-- A device's products of a step, both directions. -/
abbrev gs (c : Dev nD) (n : ℕ) : Prods F := prods (gv m false c n) (gv m true c n)

/-- Both products of a step are formed. -/
theorem wp_muls (c : Dev nD) (r : Fin 7) {k : Prods F → P} {Q : PUnit → sProp 𝕄} :
    staged m c ⊢ iprop((staged m c -∗ WP c (k (gs m c r.val)) Q) -∗ WP c (mulsK c r k) Q) := by
  have hg (b : Bool) : gv m b c r.val = mulV m b c (xoff b c r) (xoff_inb b c r) := dif_pos r.isLt
  unfold gs; rw [hg, hg]
  iintro Hst Hk
  unfold mulsK
  iapply (wp_mul m c false _ _) $$ Hst
  iintro Hst
  iapply (wp_mul m c true _ _) $$ Hst
  iexact Hk

/-- The products of the own chunk are formed. -/
theorem wp_own (c : Dev nD) {k : Prods F → P} {Q : PUnit → sProp 𝕄} :
    staged m c ⊢ iprop((staged m c -∗ WP c (k (gs m c 7)) Q) -∗ WP c (ownK c k) Q) := by
  have hg (b : Bool) : gv m b c 7 = mulV m b c (k0_off3 c) (k0_off3_inb c) := dif_neg (by decide)
  unfold gs; rw [hg, hg]
  iintro Hst Hk
  unfold ownK
  iapply (wp_mul m c false _ _) $$ Hst
  iintro Hst
  iapply (wp_mul m c true _ _) $$ Hst
  iexact Hk

end Cert.KernelIdeal.Ring

end
-- ==== Proof.Ring.lean ====
/- The steps of the ring: what a direction holds between two of them, and what each of them does to it. -/
module

public import proofs.«01_k».proof.Proof.Moves

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-! ## What travels -/

omit [FloatOps F] in
theorem ahead_nb (i : ℕ) (c : Dev nD) : ahead i (nb false c) = ahead (i + 1) c := by
  rw [nb_eq]; exact Fin.ext (by simp only [ahead]; omega)
omit [FloatOps F] in
theorem ahead_zero (c : Dev nD) : ahead 0 c = c := by revert c; decide

omit [FloatOps F] in
/-- Of the rows that travel, a device keeps the one of its own buffer and hands on the others. -/
theorem passing_step (c : Dev nD) (n : ℕ) (h : n < 7) :
    passing (F := F) c n = iprop(anyRow (F := F) (ahead (7 - n) c) c ∗ passing (F := F) (nb false c) (n + 1)) := by
  obtain ⟨k, hk⟩ : ∃ k, 7 - n = k + 1 := ⟨6 - n, by omega⟩
  have hs : bigSep (Finset.range (k + 1)) (fun i => (anyRow (F := F) (ahead (k + 1) c) (ahead i c) : sProp 𝕄))
      = iprop(anyRow (F := F) (ahead (k + 1) c) c ∗ bigSep (Finset.range k) fun i => anyRow (F := F) (ahead (k + 1) c) (ahead (i + 1) c)) := by
    rw [show Finset.range (k + 1) = insert 0 ((Finset.range k).map ⟨fun i => i + 1, fun a b h => Nat.succ_injective h⟩) by
      ext i; simp only [Finset.mem_insert, Finset.mem_map, Finset.mem_range, Function.Embedding.coeFn_mk]
      exact ⟨fun h => if h0 : i = 0 then Or.inl h0 else Or.inr ⟨i - 1, by omega, Nat.succ_pred_eq_of_ne_zero h0⟩,
        fun h => by rcases h with h | ⟨a, h, rfl⟩; exacts [by omega, Nat.succ_lt_succ h]⟩]
    refine (bigSep_insert (by simp)).trans ?_
    rw [bigSep_map, ahead_zero]; rfl
  unfold passing
  rw [show 7 - (n + 1) = k by omega, hk, hs, ahead_nb]
  have hr : (fun i => (anyRow (F := F) (ahead (k + 1) c) (ahead i (nb false c)) : sProp 𝕄)) = fun i => anyRow (F := F) (ahead (k + 1) c) (ahead (i + 1) c) :=
    funext fun i => by rw [ahead_nb]
  rw [hr]

/-- The rows a device has been given on other devices, `n` of them. -/
def rowsGot (c : Dev nD) (n : ℕ) : sProp 𝕄 := bigSep (Finset.range n) fun i => anyRow (F := F) (ahead (7 - i) c) c

omit [FloatOps F] in
theorem rowsGot_succ (c : Dev nD) (n : ℕ) : rowsGot (F := F) c (n + 1) = iprop(anyRow (F := F) (ahead (7 - n) c) c ∗ rowsGot (F := F) c n) := by
  unfold rowsGot; rw [Finset.range_add_one]; exact bigSep_insert Finset.notMem_range_self

/-- What a first half brings, spelt out. -/
theorem extra_zero (e : Dev nD) (b : Bool) (n : ℕ) :
    extra (F := F) e b n 0 = iprop(onlyIf (n < 6) (rights (F := F) e (!b) (n + 1)) ∗ onlyIf (b = false) (passing (F := F) e n)) := onlyIf_pos rfl _
theorem extra_one (e : Dev nD) (b : Bool) (n : ℕ) : extra (F := F) e b n 1 = iprop(emp) := onlyIf_neg (by decide) _

/-- A device lends a free slot to the neighbour that fills it. -/
theorem rights_lend (c : Dev nD) (b : Bool) (n k k' : ℕ) (h : n / 4 ≤ (k + 3 - n % 4) / 4) (h' : n / 4 ≤ (k' + 3 - n % 4) / 4) :
    iprop(freeAt (F := F) c (!b) (sl (n + 1)) ∗ arrivals (F := F) c (!b) 0 k ∗ arrivals (F := F) c (!b) 1 k')
      ⊢ iprop(rights (F := F) (nb b c) (!b) n ∗ arrivals (F := F) c (!b) 0 k ∗ arrivals (F := F) c (!b) 1 k') := by
  have hn : nb (!b) (nb b c) = c := nb_nb' b c
  unfold rights freeAt arrivals
  rw [hn]
  iintro ⟨⟨Ha, Hb⟩, ⟨Hc, Hr⟩, Hc', Hr'⟩
  ihave Hc := (chain_reached (F := F) (fun i => kcell c (.recv (!b) (sl (i.val + 1)) 0)) k (sl n) (n / 4) h) $$ Hc
  ihave Hc' := (chain_reached (F := F) (fun i => kcell c (.recv (!b) (sl (i.val + 1)) 1)) k' (sl n) (n / 4) h') $$ Hc'
  simp only [sl_sl]
  icases Hc with ⟨Hc, H0⟩
  icases Hc' with ⟨Hc', H1⟩
  iframe

/-! ## What a direction holds -/

/-- The halves of a step are on their way, -/
def away (c : Dev nD) (b : Bool) (n : ℕ) : sProp 𝕄 := iprop(gone (F := F) c b n 0 ∗ gone (F := F) c b n 1)
/-- the departures of `n` steps are over. -/
def over (c : Dev nD) (b : Bool) (n : ℕ) : sProp 𝕄 := iprop(departures (F := F) c b 0 n ∗ departures (F := F) c b 1 n)

/-- A direction at the head of step `n + 1`. -/
def side (c : Dev nD) (b : Bool) (n : ℕ) : sProp 𝕄 :=
  iprop(heldAt (F := F) c b (sl (n + 1)) 0 (acc m b c (n + 1) 0) ∗ away (F := F) c b n ∗ freeAt (F := F) c b (sl (n + 3)) ∗ rights (F := F) c b (n + 1)
    ∗ arrivals (F := F) c b 0 (n + 1) ∗ arrivals (F := F) c b 1 n ∗ over (F := F) c b n ∗ credits (F := F) c b n)

/-- A direction once both halves of step `n + 1` are out. -/
def mid (c : Dev nD) (b : Bool) (n : ℕ) : sProp 𝕄 :=
  iprop(away (F := F) c b n ∗ away (F := F) c b (n + 1) ∗ onlyIf (¬ n + 1 < 6) (freeAt (F := F) c b (sl (n + 3)))
    ∗ arrivals (F := F) c b 0 (n + 1) ∗ arrivals (F := F) c b 1 (n + 1) ∗ over (F := F) c b n ∗ credits (F := F) c b (n + 1))

theorem above_zero (t : ℕ) : Above 0 t := fun op _ => by rcases op with b | ⟨b, s, u⟩ | ⟨b, s⟩ | j <;> simp only [Op.lvl] <;> omega

/-- What is owed once the credits of step `n` are paid lies above the level of what arrives at it. -/
theorem above_hop {i n t : ℕ} (hi : i < 4 * n + 8) (h1 : i < 30) (ht : 6 + 6 * n ≤ t) (hc : 8 + 6 * n ≤ t ∨ i < 4 * n + 6) : Above i t := fun op h => by
  rcases op with b | ⟨b, s, u⟩ | ⟨b, s⟩ | j
  · have hb := Bool.toNat_le b; simp only [Op.lvl, Op.tm] at h ⊢; omega
  · have hb := Bool.toNat_le b; simp only [Op.lvl, Op.tm] at h ⊢; omega
  · have hb := Bool.toNat_le b; simp only [Op.lvl, Op.tm] at h ⊢; omega
  · simp only [Op.lvl]; omega

/-! ## The steps -/

/-- A half goes out while the departures stand anywhere near. -/
theorem wp_out (c : Dev nD) (b : Bool) (n : ℕ) (u : Fin 2) (k t : ℕ) (hn : n < 7) (hk : n / 4 ≤ (k + 3 - n % 4) / 4) (ht : t = 2 + 6 * n + 2 * u.val + b.toNat)
    {p : P} {Q : PUnit → sProp 𝕄} :
    iprop(recs m K ∗ debt (F := F) c t ∗ heldAt (F := F) c b (sl n) u (acc m b c n u)
        ∗ (anyAt (F := F) (nb b c) b (sl (n + 1)) u ∗ reached ER (kcell (nb b c) (.recv b (sl (n + 1)) u)) (n / 4))
        ∗ departures (F := F) c b u k ∗ extra (F := F) (nb b c) b n u)
      ⊢ iprop(((debt (F := F) c (t + 1) ∗ gone (F := F) c b n u ∗ departures (F := F) c b u k) -∗ WP c p Q) -∗ WP c (sendK b n u c p) Q) := by
  subst ht
  unfold departures
  iintro ⟨#HR, Hd, Hh, Hr, Hdep, Hx⟩ Hk
  ihave Hdep := (chain_reached (F := F) (fun i => kcell c (.send b i u)) k (sl n) (n / 4) hk) $$ Hdep
  icases Hdep with ⟨Hdep, Hs⟩
  iapply (wp_send m K c b n u hn) $$ [Hd Hh Hr Hs Hx]
  · isplitr; · iexact HR
    isplitl [Hd]; · iexact Hd
    isplitl [Hh]; · iexact Hh
    isplitl [Hr]; · iexact Hr
    isplitl [Hs]; · iexact Hs
    iexact Hx
  iintro ⟨Hd, Hg⟩
  iapply Hk
  iframe

/-- The halves of a step have over: its slots are free again. -/
theorem wp_departs (c : Dev nD) (n t : ℕ) (hn : n < 7) {p : P} {Q : PUnit → sProp 𝕄} :
    iprop(recs m K ∗ debt (F := F) c t ∗ over (F := F) c false n ∗ away (F := F) c false n ∗ over (F := F) c true n ∗ away (F := F) c true n)
      ⊢ iprop(((debt (F := F) c t ∗ over (F := F) c false (n + 1) ∗ freeAt (F := F) c false (sl n) ∗ over (F := F) c true (n + 1) ∗ freeAt (F := F) c true (sl n))
          -∗ WP c p Q) -∗ WP c (departsK n p) Q) := by
  unfold over away freeAt
  iintro ⟨#HR, Hd, ⟨H0, H1⟩, ⟨G0, G1⟩, ⟨H2, H3⟩, G2, G3⟩ Hk
  unfold departsK
  iapply (wp_depart m K c false n 0 t hn (above_zero t)) $$ [Hd H0 G0]
  · iframe; iexact HR
  iintro ⟨Hd, H0, F0⟩
  iapply (wp_depart m K c false n 1 t hn (above_zero t)) $$ [Hd H1 G1]
  · iframe; iexact HR
  iintro ⟨Hd, H1, F1⟩
  iapply (wp_depart m K c true n 0 t hn (above_zero t)) $$ [Hd H2 G2]
  · iframe; iexact HR
  iintro ⟨Hd, H2, F2⟩
  iapply (wp_depart m K c true n 1 t hn (above_zero t)) $$ [Hd H3 G3]
  · iframe; iexact HR
  iintro ⟨Hd, H3, F3⟩
  iapply Hk
  iframe

/-- The neighbours are told that step `n` is over. -/
theorem wp_credits (c : Dev nD) (n : ℕ) (hn : n < 6) {p : P} {Q : PUnit → sProp 𝕄} :
    iprop(recs m K ∗ debt (F := F) c (6 + 6 * n)) ⊢ iprop((debt (F := F) c (8 + 6 * n) -∗ WP c p Q) -∗ WP c (creditsK c p) Q) := by
  have h0 {p : P} := wp_pay m K c (.crd false ⟨n, hn⟩) (credSem false) rfl rfl rfl (k := p) (Q := Q)
  have h1 {p : P} := wp_pay m K c (.crd true ⟨n, hn⟩) (credSem true) rfl rfl rfl (k := p) (Q := Q)
  rw [show (Op.crd false ⟨n, hn⟩).tm = 6 + 6 * n from rfl] at h0
  rw [show (Op.crd true ⟨n, hn⟩).tm = 6 + 6 * n + 1 from rfl, show 6 + 6 * n + 1 + 1 = 8 + 6 * n by omega] at h1
  iintro ⟨#HR, Hd⟩ Hk
  unfold creditsK
  iapply h0 $$ [Hd]
  · isplitr; · iexact HR
    isplitl [Hd]; · iexact Hd
    iempintro
  iintro Hd
  iapply h1 $$ [Hd]
  · isplitr; · iexact HR
    isplitl [Hd]; · iexact Hd
    iempintro
  iexact Hk

theorem prods_false (a d : FVec F S512x1024 .f32) : prods a d false = a := rfl
theorem prods_true (a d : FVec F S512x1024 .f32) : prods a d true = d := rfl

/-- The first halves of step `n` are taken in, with what they bring. -/
theorem wp_first (c : Dev nD) (n t : ℕ) (hn : n < 7) (ha : Above (4 * n + 4) t)
    {k : Vec F S1x256x1024 .f32 → Vec F S1x256x1024 .f32 → P} {Q : PUnit → sProp 𝕄} :
    iprop(recs m K ∗ debt (F := F) c t ∗ arrivals (F := F) c false 0 n ∗ arrivals (F := F) c true 0 n)
      ⊢ iprop(((debt (F := F) c t ∗ arrivals (F := F) c false 0 (n + 1) ∗ arrivals (F := F) c true 0 (n + 1)
            ∗ heldAt (F := F) c false (sl (n + 1)) 0 (acc m false c (n + 1) 0) ∗ heldAt (F := F) c true (sl (n + 1)) 0 (acc m true c (n + 1) 0)
            ∗ onlyIf (n < 6) (rights (F := F) c false (n + 1)) ∗ onlyIf (n < 6) (rights (F := F) c true (n + 1)) ∗ passing (F := F) c n)
          -∗ WP c (k (acc m false (nb true c) n 0) (acc m true (nb false c) n 0)) Q) -∗ WP c (firstK n (gs m c (n + 1)) k) Q) := by
  unfold firstK gs
  rw [prods_false, prods_true]
  have h0 {k : Vec F S1x256x1024 .f32 → P} := wp_take m K c false n 0 t hn ha (k := k) (Q := Q)
  have h1 {k : Vec F S1x256x1024 .f32 → P} := wp_take m K c true n 0 t hn ha (k := k) (Q := Q)
  rw [extra_zero, onlyIf_pos rfl (passing (F := F) c n)] at h0
  rw [extra_zero] at h1
  simp only [Bool.not_false, Bool.not_true] at h0 h1
  iintro ⟨#HR, Hd, H0, H1⟩ Hk
  iapply h0 $$ [Hd H0]
  · iframe; iexact HR
  iintro ⟨Hd, H0, Hh0, Hr0, Hp⟩
  iapply h1 $$ [Hd H1]
  · iframe; iexact HR
  iintro ⟨Hd, H1, Hh1, Hr1, -⟩
  iapply Hk
  iframe

/-- A first half of a later step goes out, and with it the loan of the other direction's free slot. -/
theorem wp_out_first (c : Dev nD) (b : Bool) (n t : ℕ) (hn : n < 6) (ht : t = 8 + 6 * n + b.toNat) {p : P} {Q : PUnit → sProp 𝕄} :
    iprop(recs m K ∗ debt (F := F) c t ∗ heldAt (F := F) c b (sl (n + 1)) 0 (acc m b c (n + 1) 0)
        ∗ (anyAt (F := F) (nb b c) b (sl (n + 2)) 0 ∗ reached ER (kcell (nb b c) (.recv b (sl (n + 2)) 0)) ((n + 1) / 4))
        ∗ departures (F := F) c b 0 n ∗ freeAt (F := F) c (!b) (sl (n + 3)) ∗ arrivals (F := F) c (!b) 0 (n + 1) ∗ arrivals (F := F) c (!b) 1 n
        ∗ onlyIf (b = false) (passing (F := F) (nb b c) (n + 1)))
      ⊢ iprop(((debt (F := F) c (t + 1) ∗ gone (F := F) c b (n + 1) 0 ∗ departures (F := F) c b 0 n
          ∗ onlyIf (¬ n + 1 < 6) (freeAt (F := F) c (!b) (sl (n + 3))) ∗ arrivals (F := F) c (!b) 0 (n + 1) ∗ arrivals (F := F) c (!b) 1 n)
          -∗ WP c p Q) -∗ WP c (sendK b (n + 1) 0 c p) Q) := by
  have hout := wp_out m K c b (n + 1) 0 n t (by omega) (by omega) (by rw [ht]; show _ = 2 + 6 * (n + 1) + 2 * 0 + _; omega) (p := p) (Q := Q)
  have hlend := rights_lend (F := F) c b (n + 2) (n + 1) n (by omega) (by omega)
  rw [extra_zero] at hout
  by_cases h : n + 1 < 6
  · rw [onlyIf_neg (not_not.mpr h)]
    rw [onlyIf_pos h] at hout
    iintro ⟨#HR, Hd, Hh, Hr, Hdep, Hf, Ha, Hb, Hp⟩ Hk
    ihave Hl := hlend $$ [Hf Ha Hb]
    · iframe
    icases Hl with ⟨Hl, Ha, Hb⟩
    iapply hout $$ [Hd Hh Hr Hdep Hl Hp]
    · iframe; iexact HR
    iintro ⟨Hd, Hg, Hdep⟩
    iapply Hk
    iframe
  · rw [onlyIf_pos h]
    rw [onlyIf_neg h] at hout
    iintro ⟨#HR, Hd, Hh, Hr, Hdep, Hf, Ha, Hb, Hp⟩ Hk
    iapply hout $$ [Hd Hh Hr Hdep Hp]
    · iframe; iexact HR
    iintro ⟨Hd, Hg, Hdep⟩
    iapply Hk
    iframe

/-- A second half is taken in and goes out. -/
theorem wp_pass_second (c : Dev nD) (b : Bool) (n t : ℕ) (hn : n < 6) (ht : t = 10 + 6 * n + b.toNat) {p : P} {Q : PUnit → sProp 𝕄} :
    iprop(recs m K ∗ debt (F := F) c t ∗ arrivals (F := F) c b 1 n
        ∗ (anyAt (F := F) (nb b c) b (sl (n + 2)) 1 ∗ reached ER (kcell (nb b c) (.recv b (sl (n + 2)) 1)) ((n + 1) / 4)) ∗ departures (F := F) c b 1 n)
      ⊢ iprop(((debt (F := F) c (t + 1) ∗ arrivals (F := F) c b 1 (n + 1) ∗ gone (F := F) c b (n + 1) 1 ∗ departures (F := F) c b 1 n) -∗ WP c p Q)
          -∗ WP c (takeK b n 1 (gv m b c (n + 1)) fun _ => sendK b (n + 1) 1 c p) Q) := by
  have hout := wp_out m K c b (n + 1) 1 n t (by omega) (by omega) (by rw [ht]; show _ = 2 + 6 * (n + 1) + 2 * 1 + _; omega) (p := p) (Q := Q)
  rw [extra_one] at hout
  iintro ⟨#HR, Hd, Ha, Hr, Hdep⟩ Hk
  iapply (wp_take m K c b n 1 t (by omega) (above_hop (n := n) (by omega) (by omega) (by omega) (by omega))) $$ [Hd Ha]
  · iframe; iexact HR
  iintro ⟨Hd, Ha, Hh, -⟩
  iapply hout $$ [Hd Hh Hr Hdep]
  · iframe; iexact HR
  iintro ⟨Hd, Hg, Hdep⟩
  iapply Hk
  iframe

/-- The head of step `n + 1`. -/
theorem wp_head (c : Dev nD) (n : ℕ) (hn : n < 6) {p : P} {Q : PUnit → sProp 𝕄} :
    iprop(recs m K ∗ debt (F := F) c (8 + 6 * n) ∗ side m c false n ∗ side m c true n ∗ passing (F := F) (nb false c) (n + 1))
      ⊢ iprop(((debt (F := F) c (12 + 6 * n) ∗ mid (F := F) c false n ∗ mid (F := F) c true n) -∗ WP c p Q)
          -∗ WP c (headK c n (gs m c (n + 1)) p) Q) := by
  have h0 {p : P} := wp_out_first m K c false n (8 + 6 * n) hn rfl (p := p) (Q := Q)
  have h1 {p : P} := wp_out_first m K c true n (9 + 6 * n) hn (by show _ = 8 + 6 * n + 1; omega) (p := p) (Q := Q)
  have h2 {p : P} := wp_pass_second m K c false n (10 + 6 * n) hn rfl (p := p) (Q := Q)
  have h3 {p : P} := wp_pass_second m K c true n (11 + 6 * n) hn (by show _ = 10 + 6 * n + 1; omega) (p := p) (Q := Q)
  rw [show 8 + 6 * n + 1 = 9 + 6 * n by omega, onlyIf_pos rfl] at h0
  rw [show 9 + 6 * n + 1 = 10 + 6 * n by omega, onlyIf_neg (by decide)] at h1
  rw [show 10 + 6 * n + 1 = 11 + 6 * n by omega] at h2
  rw [show 11 + 6 * n + 1 = 12 + 6 * n by omega] at h3
  simp only [Bool.not_false, Bool.not_true] at h0 h1
  unfold headK gs side mid over away rights
  rw [prods_false, prods_true]
  iintro ⟨#HR, Hd, ⟨A1, ⟨A2, A2'⟩, A3, ⟨A4, A4'⟩, A5, A6, ⟨A7, A7'⟩, A8⟩, ⟨B1, ⟨B2, B2'⟩, B3, ⟨B4, B4'⟩, B5, B6, ⟨B7, B7'⟩, B8⟩, Hp⟩ Hk
  iapply (wp_credit m K c false n (8 + 6 * n) hn (above_hop (n := n) (by omega) (by omega) (by omega) (by omega))) $$ [Hd A8]
  · iframe; iexact HR
  iintro ⟨Hd, A8⟩
  iapply (wp_credit m K c true n (8 + 6 * n) hn (above_hop (n := n) (by omega) (by omega) (by omega) (by omega))) $$ [Hd B8]
  · iframe; iexact HR
  iintro ⟨Hd, B8⟩
  iapply h0 $$ [Hd A1 A4 A7 B3 B5 B6 Hp]
  · iframe; iexact HR
  iintro ⟨Hd, G0, A7, B3, B5, B6⟩
  iapply h1 $$ [Hd B1 B4 B7 A3 A5 A6]
  · iframe; iexact HR
  iintro ⟨Hd, G1, B7, A3, A5, A6⟩
  iapply h2 $$ [Hd A6 A4' A7']
  · iframe; iexact HR
  iintro ⟨Hd, A6, G2, A7'⟩
  iapply h3 $$ [Hd B6 B4' B7']
  · iframe; iexact HR
  iintro ⟨Hd, B6, G3, B7'⟩
  iapply Hk
  iframe

/-- What a device holds between two steps. -/
def St (c : Dev nD) (n : ℕ) : sProp 𝕄 :=
  iprop(debt (F := F) c (8 + 6 * n) ∗ staged m c ∗ side m c false n ∗ side m c true n ∗ passing (F := F) (nb false c) (n + 1) ∗ rowsGot (F := F) c (n + 1))

/-- A middle step. -/
theorem wp_mid (c : Dev nD) (n : Fin 5) {k : Prods F → P} {Q : PUnit → sProp 𝕄} :
    iprop(recs m K ∗ St m c n.val) ⊢ iprop((St m c (n.val + 1) -∗ WP c (k (gs m c (n.val + 2))) Q) -∗ WP c (midK c n (gs m c (n.val + 1)) k) Q) := by
  obtain ⟨n, hn⟩ := n
  dsimp only
  have hcr {p : P} := wp_credits m K c (n + 1) (by omega) (p := p) (Q := Q)
  have hfi {k : Vec F S1x256x1024 .f32 → Vec F S1x256x1024 .f32 → P} :=
    wp_first m K c (n + 1) (8 + 6 * (n + 1)) (by omega) (above_hop (n := n + 1) (by omega) (by omega) (by omega) (by omega)) (k := k) (Q := Q)
  rw [show 6 + 6 * (n + 1) = 12 + 6 * n by omega] at hcr
  rw [onlyIf_pos (by omega), onlyIf_pos (by omega), passing_step c (n + 1) (by omega)] at hfi
  unfold St midK
  rw [rowsGot_succ c (n + 1)]
  iintro ⟨#HR, Hd, Hst, Hs, Ht, Hp, Hrow⟩ Hk
  iapply (wp_head m K c n (by omega)) $$ [Hd Hs Ht Hp]
  · iframe; iexact HR
  unfold mid
  iintro ⟨Hd, ⟨A1, A2, -, A3, A4, A5, A6⟩, B1, B2, -, B3, B4, B5, B6⟩
  iapply (wp_muls m c _) $$ Hst
  iintro Hst
  iapply (wp_departs m K c n (12 + 6 * n) (by omega)) $$ [Hd A5 A1 B5 B1]
  · iframe; iexact HR
  iintro ⟨Hd, A5, A1, B5, B1⟩
  iapply hcr $$ [Hd]
  · iframe; iexact HR
  iintro Hd
  iapply hfi $$ [Hd A3 B3]
  · iframe; iexact HR
  iintro ⟨Hd, A3, B3, A7, B7, A8, B8, Hr, Hp⟩
  iapply Hk
  unfold side
  rw [show sl (n + 1 + 3) = sl n from Fin.ext (by simp only [sl]; omega)]
  iframe

/-- The middle steps. -/
theorem wp_mids (c : Dev nD) {k : Prods F → P} {Q : PUnit → sProp 𝕄} : ∀ (fuel n : ℕ) (h : n + fuel = 5),
    iprop(recs m K ∗ St m c n) ⊢ iprop((St m c 5 -∗ WP c (k (gs m c 6)) Q) -∗ WP c (midsK c k fuel n h (gs m c (n + 1))) Q)
  | 0, n, h => by
    obtain rfl : n = 5 := by omega
    iintro ⟨-, H⟩ Hk
    iapply Hk; iexact H
  | fuel + 1, n, h => by
    iintro ⟨#HR, H⟩ Hk
    unfold midsK
    iapply (wp_mid m K c _) $$ [H]
    · isplitr; · iexact HR
      iexact H
    iintro H
    iapply (wp_mids c fuel (n + 1) _) $$ [H]
    · isplitr; · iexact HR
      iexact H
    iexact Hk

end Cert.KernelIdeal.Ring

end
-- ==== Proof.Buffers.lean ====
/- Whole buffers and their parts: reading and writing a rectangle, the communication buffers in halves. -/
module

public import Idealize.ShloMosaic.Lib.Pointwise.Index
public import proofs.«01_k».proof.Proof.Ring

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-- An index of a unit-stride rectangle, placed: the offset plus the index. -/
theorem unit_val {s : Shape} {off size : Fin s.rank → ℕ} {inb : ∀ a, off a + size a ≤ s.size a} (j : (Rect.unit off size inb).shape.Idx) (a : Fin s.rank) :
    ((Rect.unit off size inb).emb j a : ℕ) = off a + j a := by
  rw [Rect.emb_apply]; exact congrArg (off a + ·) (Nat.one_mul _)
theorem halfR_val (u : Fin 2) (j : S1x256x1024.Idx) (a : Fin 3) : ((halfR u).emb j a : ℕ) = (![0, 256 * u.val, 0] : Fin 3 → ℕ) a + j a := unit_val (s := S1x512x1024) j a
theorem slotR_val (s : Fin 4) (j : S1x512x1024.Idx) (a : Fin 3) : ((slotR s).emb j a : ℕ) = (![s.val, 0, 0] : Fin 3 → ℕ) a + j a := unit_val (s := S4x512x1024) j a
theorem pieceR_val (s : Fin 4) (u : Fin 2) (j : S1x256x1024.Idx) (a : Fin 3) : ((pieceR s u).emb j a : ℕ) = (![s.val, 256 * u.val, 0] : Fin 3 → ℕ) a + j a :=
  unit_val (s := S4x512x1024) j a

/-! ## Whole buffers -/

/-- A rectangle of a memref that is held is read. -/
theorem wp_look (c : Dev nD) {s : Shape} (M : Memref sig .tc .vmem s .f32) (X : s.Idx → Elt F .f32) (r : Rect s) {hl : M.view.LoadsAt r}
    {k : (r.shape.Idx → Elt F .f32) → P} {Q : PUnit → sProp 𝕄} :
    owns (c : Thread nD τ) M fullShare X ⊢ iprop((owns (c : Thread nD τ) M fullShare X -∗ WP c (k fun j => X (r.emb j)) Q) -∗ WP c (.op (.load M r hl) k) Q) := by
  unfold owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = fun j => X (r.emb j) by rw [← hf]; rfl]
  iapply Hk
  iexists f
  isplitr; · ipureintro; exact hf
  iexact H

/-- A rectangle of a memref that is held is overwritten. -/
theorem wp_put (c : Dev nD) {s : Shape} (M : Memref sig .tc .vmem s .f32) (X : s.Idx → Elt F .f32) (r : Rect s) (v : r.shape.Idx → Elt F .f32)
    {hx : (M.access r).Stores Finset.univ} {hm : Finset.univ = Finset.univ ∨ ∀ a, r.stride a = 1} {k : P} {Q : PUnit → sProp 𝕄} :
    owns (c : Thread nD τ) M fullShare X
      ⊢ iprop(((∃ X', ⌜(∀ j, X' (r.emb j) = v j) ∧ ∀ i, i ∉ r.set → X' i = X i⌝ ∗ owns (Val := Elt F) (c : Thread nD τ) M fullShare X') -∗ WP c k Q)
        -∗ WP c (.op (.store M r v Finset.univ hx hm) fun _ => k) Q) := by
  unfold owns
  iintro ⟨%f, %hf, H⟩ Hk
  iapply (wp_store 𝒱₀ (c : Thread nD τ) none Set.univ (m := M) (r := r) (Mk := Finset.univ) (S := M.view.set) (View.set_slice_subset _ _)) $$ H
  iintro H
  iapply Hk
  iexists (M.view.read (Elt F) ((M.access r).write (Elt F) f v Finset.univ))
  isplitr
  · ipureintro
    refine ⟨fun j => View.read_slice_write_emb r f v (Finset.mem_univ j), fun i hi => ?_⟩
    rw [← hf]
    exact View.read_slice_write_of_not_mem r f v Finset.univ (by rwa [Rect.map_emb_univ])
  iexists ((M.access r).write (Elt F) f v Finset.univ)
  isplitr; · ipureintro; rfl
  iexact H

/-! ## The communication buffers in halves -/

abbrev pieceT (t : Fin 4 × Fin 2) : Rect S4x512x1024 := pieceR t.1 t.2

theorem pieces_disjoint (t t' : Fin 4 × Fin 2) (h : t ≠ t') : Disjoint (pieceT t).set (pieceT t').set := by
  by_cases h1 : t.1 = t'.1
  · refine Rect.unit_disjoint (1 : Fin 3) ?_
    have h2 : t.2.val ≠ t'.2.val := fun h2 => h (Prod.ext h1 (Fin.ext h2))
    show 256 * t.2.val + 256 ≤ 256 * t'.2.val ∨ 256 * t'.2.val + 256 ≤ 256 * t.2.val
    omega
  · refine Rect.unit_disjoint (0 : Fin 3) ?_
    have h2 : t.1.val ≠ t'.1.val := fun h2 => h1 (Fin.ext h2)
    show t.1.val + 1 ≤ t'.1.val ∨ t'.1.val + 1 ≤ t.1.val
    omega

theorem lt0 (i : S4x512x1024.Idx) : (i 0).val < 4 := (i 0).isLt
theorem lt1 (i : S4x512x1024.Idx) : (i 1).val < 512 := (i 1).isLt
theorem lt2 (i : S4x512x1024.Idx) : (i 2).val < 1024 := (i 2).isLt

theorem pieces_cover : (Finset.univ : Finset (Fin 4 × Fin 2)).biUnion (fun t => (pieceT t).set) = Finset.univ := by
  refine Finset.eq_univ_iff_forall.mpr fun i => Finset.mem_biUnion.mpr ⟨(⟨(i 0).val, lt0 i⟩, ⟨(i 1).val / 256, by have := lt1 i; omega⟩), Finset.mem_univ _, ?_⟩
  refine Rect.mem_set_unit.mpr (Fin.forall_fin_succ.mpr ⟨?_, Fin.forall_fin_succ.mpr ⟨?_, Fin.forall_fin_succ.mpr ⟨?_, fun a => a.elim0⟩⟩⟩)
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 1024; have := lt2 i; omega

/-- A slot's contents from its halves. -/
def joined (G : Fin 2 → FVec F S1x256x1024 .f32) : FVec F S1x512x1024 .f32 := fun j =>
  G ⟨(j 1).val / 256, Nat.div_lt_of_lt_mul (show (j 1).val < 256 * 2 from (j 1).isLt)⟩
    (ix3 (n0 := 1) (n1 := 256) (n2 := 1024) 0 ⟨(j 1).val % 256, Nat.mod_lt _ (by decide)⟩ ⟨(j 2).val, (j 2).isLt⟩)

omit [FloatOps F] in
theorem half_joined (G : Fin 2 → FVec F S1x256x1024 .f32) (u : Fin 2) : half u (joined G) = G u := by
  funext j
  have h1 : ((halfR u).emb j 1).val = 256 * u.val + (j 1).val := halfR_val u j 1
  have h2 : ((halfR u).emb j 2).val = (j 2).val := (halfR_val u j 2).trans (Nat.zero_add _)
  have hj1 : (j 1).val < 256 := (j 1).isLt
  have hj0 : (j 0).val < 1 := (j 0).isLt
  unfold half joined
  congr 1
  · refine Fin.ext ?_
    show ((halfR u).emb j 1).val / 256 = u.val
    rw [h1]; omega
  · funext a
    refine Fin.ext ?_
    revert a
    refine Fin.forall_fin_succ.mpr ⟨?_, Fin.forall_fin_succ.mpr ⟨?_, Fin.forall_fin_succ.mpr ⟨?_, fun a => a.elim0⟩⟩⟩
    · show 0 = (j 0).val; omega
    · show ((halfR u).emb j 1).val % 256 = (j 1).val; rw [h1]; omega
    · exact h2

/-- A buffer's contents from those of its slots. -/
def glued (Y : Fin 4 → FVec F S1x512x1024 .f32) : S4x512x1024.Idx → Elt F .f32 := fun i =>
  Y ⟨(i 0).val, lt0 i⟩ (ix3 (n0 := 1) (n1 := 512) (n2 := 1024) 0 ⟨(i 1).val, lt1 i⟩ ⟨(i 2).val, lt2 i⟩)

omit [FloatOps F] in
theorem glued_slot (Y : Fin 4 → FVec F S1x512x1024 .f32) (s : Fin 4) : (fun j => glued Y ((slotR s).emb j)) = Y s := by
  funext j
  have h0 : ((slotR s).emb j 0).val = s.val + (j 0).val := slotR_val s j 0
  have h1 : ((slotR s).emb j 1).val = (j 1).val := (slotR_val s j 1).trans (Nat.zero_add _)
  have h2 : ((slotR s).emb j 2).val = (j 2).val := (slotR_val s j 2).trans (Nat.zero_add _)
  have hj0 : (j 0).val < 1 := (j 0).isLt
  unfold glued
  congr 1
  · refine Fin.ext ?_
    show ((slotR s).emb j 0).val = s.val
    rw [h0]; omega
  · funext a
    refine Fin.ext ?_
    revert a
    refine Fin.forall_fin_succ.mpr ⟨?_, Fin.forall_fin_succ.mpr ⟨?_, Fin.forall_fin_succ.mpr ⟨?_, fun a => a.elim0⟩⟩⟩
    · show 0 = (j 0).val; omega
    · exact h1
    · exact h2

/-- A half of a slot of a buffer is that half of the slot. -/
theorem emb_piece (s : Fin 4) (u : Fin 2) (j : (pieceR s u).shape.Idx) : (pieceR s u).emb j = (slotR s).emb ((halfR u).emb j) := by
  funext a
  refine Fin.ext ?_
  refine (pieceR_val s u j a).trans (Eq.trans ?_ (slotR_val s ((halfR u).emb j) a).symm)
  rw [halfR_val]
  revert a
  refine Fin.forall_fin_succ.mpr ⟨?_, Fin.forall_fin_succ.mpr ⟨?_, Fin.forall_fin_succ.mpr ⟨?_, fun a => a.elim0⟩⟩⟩
  · show s.val + _ = s.val + (0 + _); rw [Nat.zero_add]
  · show 256 * u.val + _ = 0 + (256 * u.val + _); rw [Nat.zero_add]
  · show 0 + _ = 0 + (0 + _); simp only [Nat.zero_add]

omit [FloatOps F] in
/-- The eight halves one by one. -/
theorem pieces_list (Φ : Fin 4 × Fin 2 → sProp 𝕄) : bigSep Finset.univ Φ
    = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod]
  rw [show (Finset.univ : Finset (Fin 4)) = {0, 1, 2, 3} by decide, bigSep_insert (by decide), bigSep_insert (by decide), bigSep_insert (by decide), bigSep_singleton]
  have h (s : Fin 4) : bigSep Finset.univ (fun u : Fin 2 => Φ (s, u)) = iprop(Φ (s, 0) ∗ Φ (s, 1)) := by
    rw [show (Finset.univ : Finset (Fin 2)) = {0, 1} by decide]
    exact (bigSep_insert (by decide)).trans (by rw [bigSep_singleton]; rfl)
  rw [h, h, h, h]; rfl

/-- A buffer that is held whole is held in halves, of its slot 0 those of the slot's contents. -/
theorem comm_split (c : Dev nD) (b : Bool) (X : S4x512x1024.Idx → Elt F .f32) (Y : FVec F S1x512x1024 .f32) (h : ∀ j, X ((slotR 0).emb j) = Y j) :
    owns (c : Thread nD τ) (comm b) fullShare X
      ⊢ iprop((heldAt (F := F) c b 0 0 (half 0 Y) ∗ heldAt (F := F) c b 0 1 (half 1 Y)) ∗ freeAt (F := F) c b 1 ∗ freeAt (F := F) c b 2 ∗ freeAt (F := F) c b 3) := by
  have hs := owns_rects (Ix := ℕ) (Name := ℕ) (U := UU) (Lvl := ℕ) (c : Thread nD τ) (comm b) fullShare pieceT (fun _ _ => rfl) pieces_disjoint pieces_cover X
  refine hs.trans ?_
  rw [pieces_list]
  have h0 (u : Fin 2) : (fun j => X ((pieceT (0, u)).emb j)) = half u Y := funext fun j => by
    rw [show (pieceT (0, u)).emb j = (slotR 0).emb ((halfR u).emb j) from emb_piece 0 u j, h]; rfl
  rw [h0, h0]
  unfold freeAt anyAt heldAt
  iintro ⟨⟨A, B⟩, ⟨A1, B1⟩, ⟨A2, B2⟩, A3, B3⟩
  isplitl [A B]; · iframe
  isplitl [A1 B1]
  · isplitl [A1]; · iexists _; iexact A1
    iexists _; iexact B1
  isplitl [A2 B2]
  · isplitl [A2]; · iexists _; iexact A2
    iexists _; iexact B2
  isplitl [A3]; · iexists _; iexact A3
  iexists _; iexact B3

/-- A buffer whose halves are held is held whole; its slot 3 is joined from the two halves. -/
theorem comm_join (c : Dev nD) (b : Bool) (G : Fin 2 → FVec F S1x256x1024 .f32) :
    iprop((heldAt (F := F) c b 3 0 (G 0) ∗ heldAt (F := F) c b 3 1 (G 1)) ∗ freeAt (F := F) c b 0 ∗ freeAt (F := F) c b 1 ∗ freeAt (F := F) c b 2)
      ⊢ iprop(∃ X, ⌜(fun j => X ((slotR 3).emb j)) = joined G⌝ ∗ owns (Val := Elt F) (c : Thread nD τ) (comm b) fullShare X) := by
  unfold freeAt anyAt
  iintro ⟨⟨A3, B3⟩, ⟨⟨%X0, A0⟩, ⟨%Y0, B0⟩⟩, ⟨⟨%X1, A1⟩, ⟨%Y1, B1⟩⟩, ⟨%X2, A2⟩, ⟨%Y2, B2⟩⟩
  let Gs : Fin 4 → Fin 2 → FVec F S1x256x1024 .f32 := fun s u =>
    match s, u with | 0, 0 => X0 | 0, 1 => Y0 | 1, 0 => X1 | 1, 1 => Y1 | 2, 0 => X2 | 2, 1 => Y2 | 3, u => G u
  have hX (s : Fin 4) (u : Fin 2) : (fun j => glued (fun s => joined (Gs s)) ((pieceT (s, u)).emb j)) = Gs s u := by
    refine Eq.trans ?_ (half_joined (Gs s) u)
    funext j
    rw [show (pieceT (s, u)).emb j = (slotR s).emb ((halfR u).emb j) from emb_piece s u j]
    exact congrFun (glued_slot (fun s => joined (Gs s)) s) ((halfR u).emb j)
  have ho := owns_of_rects (Ix := ℕ) (Name := ℕ) (U := UU) (Lvl := ℕ) (c : Thread nD τ) (comm b) fullShare pieceT (fun _ _ => rfl) pieces_disjoint pieces_cover (glued fun s => joined (Gs s))
  rw [pieces_list] at ho
  rw [hX, hX, hX, hX, hX, hX, hX, hX] at ho
  iexists (glued fun s => joined (Gs s))
  isplitr; · ipureintro; exact glued_slot (fun s => joined (Gs s)) 3
  iapply ho
  unfold heldAt
  iframe

end Cert.KernelIdeal.Ring

end
-- ==== Proof.Ends.lean ====
/- The start of the program, the first step and the last one. -/
module

public import Idealize.ShloMosaic.Lib.Ring
public import proofs.«01_k».proof.Proof.Buffers

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-! ## The first slot is filled -/

theorem slot_halves (b : Bool) (s : Fin 4) : ((comm b).access (slotR s)).set ⊆ (piece b s 0).view.set ∪ (piece b s 1).view.set := by
  have hs (r : Rect S4x512x1024) : ((comm b).view.slice r).set = r.set.map (comm b).view.emb := View.set_slice _ _
  show ((comm b).view.slice (slotR s)).set ⊆ ((comm b).view.slice (pieceR s 0)).set ∪ ((comm b).view.slice (pieceR s 1)).set
  rw [hs, hs, hs, ← Finset.map_union]
  refine Finset.map_subset_map.mpr fun i hi => ?_
  have h := Rect.mem_set_unit.mp hi
  have h0 : s.val ≤ (i 0).val ∧ (i 0).val < s.val + 1 := h 0
  have h1 := lt1 i
  have h2 := lt2 i
  refine Finset.mem_union.mpr ((Nat.lt_or_ge (i 1).val 256).imp (fun h => ?_) fun h => ?_)
  all_goals
    refine Rect.mem_set_unit.mpr (Fin.forall_fin_succ.mpr ⟨h0, Fin.forall_fin_succ.mpr ⟨?_, Fin.forall_fin_succ.mpr ⟨?_, fun a => a.elim0⟩⟩⟩)
  · show 0 ≤ (i 1).val ∧ (i 1).val < 0 + 256; omega
  · show 0 ≤ (i 2).val ∧ (i 2).val < 0 + 1024; omega
  · show 256 ≤ (i 1).val ∧ (i 1).val < 256 + 256; omega
  · show 0 ≤ (i 2).val ∧ (i 2).val < 0 + 1024; omega

theorem halves_disjoint (b : Bool) (s : Fin 4) : Disjoint (piece b s 0).view.set (piece b s 1).view.set := by
  have hs (r : Rect S4x512x1024) : ((comm b).view.slice r).set = r.set.map (comm b).view.emb := View.set_slice _ _
  show Disjoint ((comm b).view.slice (pieceR s 0)).set ((comm b).view.slice (pieceR s 1)).set
  rw [hs, hs]
  exact (Finset.disjoint_map _).mpr (pieces_disjoint (s, 0) (s, 1) (by simp))

/-- A free slot in one piece. -/
theorem slot_whole (c : Dev nD) (b : Bool) : freeAt (F := F) c b 0
    ⊢ iprop(∃ f, ((comm b).view.loc (c : Thread nD τ) ↦[(piece b 0 0).view.set ∪ (piece b 0 1).view.set]{fullShare} f)) := by
  unfold freeAt anyAt heldAt owns
  iintro ⟨⟨%X, %f, %hf, H0⟩, ⟨%Y, %g, %hg, H1⟩⟩
  ihave H := (pointsTo_join (ℓ := (comm b).view.loc (c : Thread nD τ)) (q := fullShare) (f := f) (g := g) (halves_disjoint b 0)) $$ [H0 H1]
  · iframe
  iexists _
  iexact H

/-- The own product is put into slot 0. -/
theorem wp_fill (c : Dev nD) (b : Bool) (v : FVec F S512x1024 .f32) {k : P} {Q : PUnit → sProp 𝕄} :
    freeAt (F := F) c b 0 ⊢ iprop(((heldAt (F := F) c b 0 0 (half 0 (k0_pay8 v)) ∗ heldAt (F := F) c b 0 1 (half 1 (k0_pay8 v))) -∗ WP c k Q) -∗ WP c (fillK b v k) Q) := by
  have hr (u : Fin 2) (f : Buf (Elt F) ((comm b).view.loc (c : Thread nD τ))) :
      (piece b 0 u).view.read (Elt F) (((comm b).access (slotR 0)).write (Elt F) f (k0_pay8 v) Finset.univ) = half u (k0_pay8 v) := funext fun j => by
    refine Eq.trans ?_ (View.read_slice_write_emb (v := (comm b).view) (slotR 0) f (k0_pay8 v) (Finset.mem_univ ((halfR u).emb j)))
    show (comm b).view.read (Elt F) _ ((pieceR 0 u).emb j) = _
    rw [emb_piece]
  iintro H Hk
  ihave H := (slot_whole c b) $$ H
  icases H with ⟨%f, H⟩
  unfold fillK heldAt owns
  iapply (wp_load_rect 𝒱₀ (c : Thread nD τ) none Set.univ (m := comm b) (r := slotR 0) (slot_halves b 0)) $$ H
  iintro H
  iapply (wp_store 𝒱₀ (c : Thread nD τ) none Set.univ (m := comm b) (r := slotR 0) (Mk := Finset.univ) (slot_halves b 0)) $$ H
  iintro H
  ihave H := (pointsTo_union (halves_disjoint b 0)).1 $$ H
  icases H with ⟨H0, H1⟩
  iapply Hk
  isplitl [H0]
  · iexists (((comm b).access (slotR 0)).write (Elt F) f (k0_pay8 v) Finset.univ)
    isplitr; · ipureintro; exact hr 0 f
    iexact H0
  iexists (((comm b).access (slotR 0)).write (Elt F) f (k0_pay8 v) Finset.univ)
  isplitr; · ipureintro; exact hr 1 f
  iexact H1

/-! ## The rows of the gathered entries -/

theorem rowR_off (i : Dev nD) : k0_off5 i = ![i.val, 0, 0] := k0_off5_eq i

theorem mem_rowR (i : Dev nD) (y : S8x8x128.Idx) : y ∈ (rowR i).set ↔ (y 0).val = i.val := by
  refine Rect.mem_set_unit.trans ?_
  rw [rowR_off]
  refine ⟨fun h => ?_, fun h => ?_⟩
  · have h0 : i.val ≤ (y 0).val ∧ (y 0).val < i.val + 1 := h 0
    omega
  · have h1 : (y 1).val < 8 := (y 1).isLt
    have h2 : (y 2).val < 128 := (y 2).isLt
    refine Fin.forall_fin_succ.mpr ⟨?_, Fin.forall_fin_succ.mpr ⟨?_, Fin.forall_fin_succ.mpr ⟨?_, fun a => a.elim0⟩⟩⟩
    · show i.val ≤ (y 0).val ∧ (y 0).val < i.val + 1; omega
    · show 0 ≤ (y 1).val ∧ (y 1).val < 0 + 8; omega
    · show 0 ≤ (y 2).val ∧ (y 2).val < 0 + 128; omega

theorem rows_disjoint (i j : Dev nD) (h : i ≠ j) : Disjoint (rowR i).set (rowR j).set :=
  Finset.disjoint_left.mpr fun y hi hj => h (Fin.ext (((mem_rowR i y).mp hi).symm.trans ((mem_rowR j y).mp hj)))
theorem rows_cover : (Finset.univ : Finset (Dev nD)).biUnion (fun i => (rowR i).set) = Finset.univ :=
  Finset.eq_univ_iff_forall.mpr fun y => Finset.mem_biUnion.mpr ⟨⟨(y 0).val, (y 0).isLt⟩, Finset.mem_univ _, (mem_rowR _ y).mpr rfl⟩

/-- The rows of the buffer: the own one, then those of the devices to the right in turn. -/
theorem rows_own (c : Dev nD) (Φ : Dev nD → sProp 𝕄) :
    bigSep Finset.univ Φ = iprop(Φ c ∗ bigSep Finset.univ fun j : Fin 7 => Φ (peer j c)) := by
  have h : Finset.univ.erase c = (Finset.univ : Finset (Fin 7)).map ⟨fun j => peer j c, by revert c; decide⟩ := by revert c; decide
  rw [bigSep_univ_at Φ c, h, bigSep_map]; rfl

/-- They are what the device clockwise hands on first. -/
theorem rows_passing (c : Dev nD) : (bigSep Finset.univ fun j : Fin 7 => anyRow (F := F) c (peer j c)) = passing (F := F) (nb false c) 0 := by
  unfold passing
  refine Idealize.ShloMosaic.Ring.bigSep_fin_eq_range 7 _ _ fun t h => ?_
  rw [ahead_nb, ahead_nb, peer_eq, Nat.add_comm 1 t, show ahead (7 - 0 + 1) c = c by revert c; decide]

/-- The buffer that holds one entry everywhere, in rows. -/
theorem rows_split (c : Dev nD) (X : S8x8x128.Idx → Elt F .f32) (a : F .f32) (h : ∀ i, X i = a) :
    owns (c : Thread nD τ) amaxBuf fullShare X ⊢ iprop(rowAt (F := F) c c a ∗ passing (F := F) (nb false c) 0) := by
  have hs := owns_rects (Ix := ℕ) (Name := ℕ) (U := UU) (Lvl := ℕ) (c : Thread nD τ) amaxBuf fullShare rowR (fun _ _ => rfl) rows_disjoint rows_cover X
  refine hs.trans ?_
  rw [rows_own c, ← rows_passing]
  have h1 : owns (c : Thread nD τ) (rowM c) fullShare (fun j => X ((rowR c).emb j)) ⊢ rowAt (F := F) c c a := by
    exact Entails.of_eq (congrArg (owns (c : Thread nD τ) (rowM c) fullShare) (funext fun j => h _))
  have h2 (j : Fin 7) : owns (c : Thread nD τ) (rowM (peer j c)) fullShare (fun y => X ((rowR (peer j c)).emb y)) ⊢ anyRow (F := F) c (peer j c) := by
    unfold anyRow; iintro H; iexists _; iexact H
  exact BIClass.sep_mono h1 (bigSep_mono fun j _ => h2 j)

/-- What the devices published, gathered: the own row as it was. -/
def allV (c : Dev nD) (a : F .f32) : S8x8x128.Idx → Elt F .f32 := fun i => if (⟨(i 0).val, (i 0).isLt⟩ : Dev nD) = c then a else lam m ⟨(i 0).val, (i 0).isLt⟩

/-- The rows put together again. -/
theorem rows_join (c : Dev nD) (a : F .f32) :
    iprop(rowAt (F := F) c c a ∗ bigSep Finset.univ fun j : Fin 7 => rowAt (F := F) c (peer j c) (lam m (peer j c)))
      ⊢ owns (c : Thread nD τ) amaxBuf fullShare (allV m c a) := by
  have ho := owns_of_rects (Ix := ℕ) (Name := ℕ) (U := UU) (Lvl := ℕ) (c : Thread nD τ) amaxBuf fullShare rowR (fun _ _ => rfl) rows_disjoint rows_cover (allV m c a)
  rw [rows_own c] at ho
  have hrow (i : Dev nD) (j : (rowR i).shape.Idx) : (⟨((rowR i).emb j 0).val, ((rowR i).emb j 0).isLt⟩ : Dev nD) = i :=
    Fin.ext ((mem_rowR i _).mp ((rowR i).map_emb_univ ▸ Finset.mem_map_of_mem _ (Finset.mem_univ j)))
  have h1 : rowAt (F := F) c c a = owns (c : Thread nD τ) (rowM c) fullShare (fun j => allV m c a ((rowR c).emb j)) := by
    exact congrArg (owns (c : Thread nD τ) (rowM c) fullShare) (funext fun j => by unfold allV; rw [hrow, if_pos rfl])
  have h2 : (bigSep Finset.univ fun j : Fin 7 => rowAt (F := F) c (peer j c) (lam m (peer j c)))
      = bigSep Finset.univ fun j : Fin 7 => owns (c : Thread nD τ) (rowM (peer j c)) fullShare (fun y => allV m c a ((rowR (peer j c)).emb y)) :=
    bigSep_congr fun j _ => by
      exact congrArg (owns (c : Thread nD τ) (rowM (peer j c)) fullShare) (funext fun y => by unfold allV; rw [hrow, if_neg (peer_ne j c)])
  rw [h1, h2]
  exact ho

/-! ## The start and the first step -/

/-- A direction once the barrier is behind. -/
def begun (c : Dev nD) (b : Bool) : sProp 𝕄 :=
  iprop(heldAt (F := F) c b 0 0 (acc m b c 0 0) ∗ heldAt (F := F) c b 0 1 (acc m b c 0 1) ∗ freeAt (F := F) c b 2 ∗ freeAt (F := F) c b 3 ∗ rights (F := F) c b 0
    ∗ arrivals (F := F) c b 0 0 ∗ arrivals (F := F) c b 1 0 ∗ over (F := F) c b 0 ∗ credits (F := F) c b 0)

/-- A direction before the start. -/
def fresh (c : Dev nD) (b : Bool) : sProp 𝕄 :=
  iprop((∃ X, owns (Val := Elt F) (c : Thread nD τ) (comm b) fullShare X)
    ∗ arrivals (F := F) c b 0 0 ∗ arrivals (F := F) c b 1 0 ∗ over (F := F) c b 0 ∗ credits (F := F) c b 0)

/-- A fresh buffer in slots. -/
theorem comm_slots (c : Dev nD) (b : Bool) (X : S4x512x1024.Idx → Elt F .f32) :
    owns (c : Thread nD τ) (comm b) fullShare X ⊢ iprop(freeAt (F := F) c b 0 ∗ freeAt (F := F) c b 1 ∗ freeAt (F := F) c b 2 ∗ freeAt (F := F) c b 3) := by
  refine (comm_split c b X (fun j => X ((slotR 0).emb j)) fun _ => rfl).trans (sep_mono_left ?_)
  unfold freeAt anyAt
  iintro ⟨A, B⟩
  isplitl [A]; · iexists _; iexact A
  iexists _; iexact B

/-- The entry every row starts from. -/
def zeroV : F .f32 := Scalar.ofBits .f32 0x00000000#32
theorem pay6_zero (i : S8x8x128.Idx) : (k0_pay6 (F := F)) i = zeroV := rfl

theorem above_bar (t : ℕ) (h : 2 ≤ t) : Above 1 t := fun op ht => by
  rcases op with b | ⟨b, s, u⟩ | ⟨b, s⟩ | j
  · have hb := Bool.toNat_le b; simp only [Op.tm] at ht; cases b <;> simp at ht <;> omega
  · simp only [Op.lvl]; omega
  · simp only [Op.lvl]; omega
  · simp only [Op.lvl]; omega

/-- The program before the first arrival. -/
theorem wp_start (c : Dev nD) {k : P} {Q : PUnit → sProp 𝕄} :
    iprop(recs m K ∗ debt (F := F) c 0 ∗ staged m c ∗ fresh (F := F) c false ∗ fresh (F := F) c true
        ∗ (∃ Z, owns (Val := Elt F) (c : Thread nD τ) amaxBuf fullShare Z)
        ∗ cred (tallyAt (kcell c .bar) 1 1) ∗ cred (tallyAt (kcell c .bar) 1 1) ∗ atPos ER (kcell c .bar) 0 ∅ 0)
      ⊢ iprop(((debt (F := F) c 2 ∗ staged m c ∗ begun m c false ∗ begun m c true ∗ rowAt (F := F) c c zeroV ∗ passing (F := F) (nb false c) 0
            ∗ atPos ER (kcell c .bar) 1 ∅ 0) -∗ WP c k Q) -∗ WP c (startK c k) Q) := by
  have h0 {p : P} : iprop(recs m K ∗ debt (F := F) c 0 ∗ payK m (nb true c) .bar 0 0)
      ⊢ iprop((debt (F := F) c 1 -∗ WP c p Q) -∗ WP c (signalK (nb true c) barSem p) Q) := wp_pay m K c (.bar false) barSem rfl rfl rfl (k := p) (Q := Q)
  have h1 {p : P} : iprop(recs m K ∗ debt (F := F) c 1 ∗ payK m (nb false c) .bar 0 1)
      ⊢ iprop((debt (F := F) c 2 -∗ WP c p Q) -∗ WP c (signalK (nb false c) barSem p) Q) := wp_pay m K c (.bar true) barSem rfl rfl rfl (k := p) (Q := Q)
  have l0 := rights_lend (F := F) c true 0 0 0 (by omega) (by omega)
  have l1 := rights_lend (F := F) c false 0 0 0 (by omega) (by omega)
  simp only [Bool.not_true, Bool.not_false] at l0 l1
  unfold fresh begun startK
  have l0 : iprop(freeAt (F := F) c false 1 ∗ arrivals (F := F) c false 0 0 ∗ arrivals (F := F) c false 1 0)
      ⊢ iprop(payK m (nb true c) .bar 0 0 ∗ arrivals (F := F) c false 0 0 ∗ arrivals (F := F) c false 1 0) := l0
  have l1 : iprop(freeAt (F := F) c true 1 ∗ arrivals (F := F) c true 0 0 ∗ arrivals (F := F) c true 1 0)
      ⊢ iprop(payK m (nb false c) .bar 0 1 ∗ arrivals (F := F) c true 0 0 ∗ arrivals (F := F) c true 1 0) := l1
  iintro ⟨#HR, Hd, Hst, ⟨⟨%X, A⟩, A1, A2, A3, A4⟩, ⟨⟨%Y, B⟩, B1, B2, B3, B4⟩, ⟨%Z, Hz⟩, C1, C2, Hat⟩ Hk
  ihave A := (comm_slots c false X) $$ A
  icases A with ⟨F0, F1, F2, F3⟩
  ihave B := (comm_slots c true Y) $$ B
  icases B with ⟨G0, G1, G2, G3⟩
  ihave Hl := l0 $$ [F1 A1 A2]
  · iframe
  icases Hl with ⟨Hl, A1, A2⟩
  iapply h0 $$ [Hd Hl]
  · isplitr; · iexact HR
    isplitl [Hd]; · iexact Hd
    iexact Hl
  iintro Hd
  ihave Hl := l1 $$ [G1 B1 B2]
  · iframe
  icases Hl with ⟨Hl, B1, B2⟩
  iapply h1 $$ [Hd Hl]
  · isplitr; · iexact HR
    isplitl [Hd]; · iexact Hd
    iexact Hl
  iintro Hd
  iapply (wp_look c amaxBuf Z _) $$ Hz
  iintro Hz
  iapply (wp_put c amaxBuf Z _ _) $$ Hz
  iintro ⟨%Z', %hZ, Hz⟩
  have hZ' (i : S8x8x128.Idx) : Z' i = zeroV := by
    have h := hZ.1 i
    rw [pay6_zero] at h
    refine Eq.trans (congrArg Z' ?_) h
    funext a
    refine Fin.ext ((unit_val (s := S8x8x128) i a).trans ?_).symm
    revert a
    exact Fin.forall_fin_succ.mpr ⟨Nat.zero_add _, Fin.forall_fin_succ.mpr ⟨Nat.zero_add _, Fin.forall_fin_succ.mpr ⟨Nat.zero_add _, fun a => a.elim0⟩⟩⟩
  ihave Hz := (rows_split c Z' zeroV hZ') $$ Hz
  icases Hz with ⟨Hz, Hp⟩
  iapply (wp_muls m c 0) $$ Hst
  iintro Hst
  iapply (wp_fill c false _) $$ F0
  iintro ⟨F0, F0'⟩
  iapply (wp_fill c true _) $$ G0
  iintro ⟨G0, G0'⟩
  iapply (wp_barrier m K c 2 (above_bar 2 (Nat.le_refl _))) $$ [Hd C1 C2 Hat]
  · isplitr; · iexact HR
    isplitl [Hd]; · iexact Hd
    iframe
  iintro ⟨Hd, Hat, R0, R1⟩
  iapply Hk
  isplitl [Hd]; · iexact Hd
  isplitl [Hst]; · iexact Hst
  isplitl [F0 F0' F2 F3 R0 A1 A2 A3 A4]
  · isplitl [F0]; · iexact F0
    isplitl [F0']; · iexact F0'
    iframe
  isplitl [G0 G0' G2 G3 R1 B1 B2 B3 B4]
  · isplitl [G0]; · iexact G0
    isplitl [G0']; · iexact G0'
    iframe
  iframe

/-- A first half of the first step goes out. -/
theorem wp_out_zero (c : Dev nD) (b : Bool) (t : ℕ) (ht : t = 2 + b.toNat) {p : P} {Q : PUnit → sProp 𝕄} :
    iprop(recs m K ∗ debt (F := F) c t ∗ heldAt (F := F) c b 0 0 (acc m b c 0 0)
        ∗ (anyAt (F := F) (nb b c) b (sl (0 + 1)) 0 ∗ reached ER (kcell (nb b c) (.recv b (sl (0 + 1)) 0)) (0 / 4))
        ∗ departures (F := F) c b 0 0 ∗ freeAt (F := F) c (!b) 2 ∗ arrivals (F := F) c (!b) 0 0 ∗ arrivals (F := F) c (!b) 1 0
        ∗ onlyIf (b = false) (passing (F := F) (nb b c) 0))
      ⊢ iprop(((debt (F := F) c (t + 1) ∗ gone (F := F) c b 0 0 ∗ departures (F := F) c b 0 0 ∗ arrivals (F := F) c (!b) 0 0 ∗ arrivals (F := F) c (!b) 1 0)
          -∗ WP c p Q) -∗ WP c (sendK b 0 0 c p) Q) := by
  have hout := wp_out m K c b 0 0 0 t (by omega) (by omega) (by rw [ht]; show _ = 2 + 6 * 0 + 2 * 0 + _; omega) (p := p) (Q := Q)
  rw [extra_zero, onlyIf_pos (by omega), show sl 0 = 0 from rfl] at hout
  iintro ⟨#HR, Hd, Hh, Hr, Hdep, Hf, Ha, Hb, Hp⟩ Hk
  have hl := rights_lend (F := F) c b 1 0 0 (by omega) (by omega)
  rw [show sl (1 + 1) = 2 from rfl] at hl
  ihave Hl := hl $$ [Hf Ha Hb]
  · iframe
  icases Hl with ⟨Hl, Ha, Hb⟩
  iapply hout $$ [Hd Hh Hr Hdep Hl Hp]
  · iframe; iexact HR
  iintro ⟨Hd, Hg, Hdep⟩
  iapply Hk
  iframe

/-- The first step. -/
theorem wp_zero (c : Dev nD) {k : Prods F → P} {Q : PUnit → sProp 𝕄} :
    iprop(recs m K ∗ debt (F := F) c 2 ∗ staged m c ∗ begun m c false ∗ begun m c true ∗ passing (F := F) (nb false c) 0)
      ⊢ iprop((St m c 0 -∗ WP c (k (gs m c 1)) Q) -∗ WP c (zeroK c k) Q) := by
  have h0 {p : P} := wp_out_zero m K c false 2 rfl (p := p) (Q := Q)
  have h1 {p : P} := wp_out_zero m K c true 3 rfl (p := p) (Q := Q)
  have h2 {p : P} := wp_out m K c false 0 1 0 4 (by omega) (by omega) rfl (p := p) (Q := Q)
  have h3 {p : P} := wp_out m K c true 0 1 0 5 (by omega) (by omega) rfl (p := p) (Q := Q)
  have hcr {p : P} := wp_credits m K c 0 (by omega) (p := p) (Q := Q)
  have hfi {k : Vec F S1x256x1024 .f32 → Vec F S1x256x1024 .f32 → P} :=
    wp_first m K c 0 (8 + 6 * 0) (by omega) (above_hop (n := 0) (by omega) (by omega) (by omega) (by omega)) (k := k) (Q := Q)
  rw [onlyIf_pos (by omega), onlyIf_pos (by omega), passing_step c 0 (by omega)] at hfi
  rw [onlyIf_pos rfl] at h0
  rw [onlyIf_neg (by decide)] at h1
  rw [extra_one, show sl 0 = 0 from rfl] at h2 h3
  simp only [Bool.not_false, Bool.not_true] at h0 h1
  unfold begun zeroK over rights
  iintro ⟨#HR, Hd, Hst, ⟨A1, A2, A3, A4, ⟨A5, A5'⟩, A6, A7, ⟨A8, A8'⟩, A9⟩, ⟨B1, B2, B3, B4, ⟨B5, B5'⟩, B6, B7, ⟨B8, B8'⟩, B9⟩, Hp⟩ Hk
  iapply h0 $$ [Hd A1 A5 A8 B3 B6 B7 Hp]
  · iframe; iexact HR
  iintro ⟨Hd, G0, A8, B6, B7⟩
  iapply h1 $$ [Hd B1 B5 B8 A3 A6 A7]
  · iframe; iexact HR
  iintro ⟨Hd, G1, B8, A6, A7⟩
  iapply h2 $$ [Hd A2 A5' A8']
  · iframe; iexact HR
  iintro ⟨Hd, G2, A8'⟩
  iapply h3 $$ [Hd B2 B5' B8']
  · iframe; iexact HR
  iintro ⟨Hd, G3, B8'⟩
  iapply (wp_muls m c 1) $$ Hst
  iintro Hst
  iapply hcr $$ [Hd]
  · iframe; iexact HR
  iintro Hd
  iapply hfi $$ [Hd A6 B6]
  · iframe; iexact HR
  iintro ⟨Hd, A6, B6, A7', B7', A8'', B8'', Hr, Hp⟩
  iapply Hk
  unfold St side over away
  rw [show rowsGot (F := F) c (0 + 1) = anyRow (F := F) (ahead (7 - 0) c) c by rw [rowsGot_succ]; unfold rowsGot; rw [Finset.range_zero, bigSep_empty]; exact equiv_iff.mp Idealize.SL.BI.sep_emp, show sl (0 + 3) = 3 from rfl]
  iframe

/-- A direction once the ring is done. -/
def ended (c : Dev nD) (b : Bool) : sProp 𝕄 :=
  iprop((heldAt (F := F) c b 3 0 (acc m b c 7 0) ∗ heldAt (F := F) c b 3 1 (acc m b c 7 1)) ∗ freeAt (F := F) c b 0 ∗ freeAt (F := F) c b 1 ∗ freeAt (F := F) c b 2)
/-- and its semaphores: everything has arrived and left. -/
def drained (c : Dev nD) (b : Bool) : sProp 𝕄 :=
  iprop(arrivals (F := F) c b 0 7 ∗ arrivals (F := F) c b 1 7 ∗ over (F := F) c b 7 ∗ credits (F := F) c b 6)

/-- The last step. -/
theorem wp_last (c : Dev nD) {k : Prods F → Vec F S1x256x1024 .f32 → Vec F S1x256x1024 .f32 → Vec F S1x256x1024 .f32 → Vec F S1x256x1024 .f32 → P}
    {Q : PUnit → sProp 𝕄} :
    iprop(recs m K ∗ St m c 5)
      ⊢ iprop(((debt (F := F) c 42 ∗ staged m c ∗ ended m c false ∗ ended m c true ∗ drained (F := F) c false ∗ drained (F := F) c true ∗ rowsGot (F := F) c 7)
          -∗ WP c (k (gs m c 7) (acc m false (nb true c) 6 0) (acc m true (nb false c) 6 0) (acc m false (nb true c) 6 1) (acc m true (nb false c) 6 1)) Q)
        -∗ WP c (lastK c (gs m c 6) k) Q) := by
  have hhe {p : P} := wp_head m K c 5 (by omega) (p := p) (Q := Q)
  have hfi {k : Vec F S1x256x1024 .f32 → Vec F S1x256x1024 .f32 → P} :=
    wp_first m K c 6 42 (by omega) (above_hop (n := 6) (by omega) (by omega) (by omega) (by omega)) (k := k) (Q := Q)
  have t0 {k : Vec F S1x256x1024 .f32 → P} := wp_take m K c false 6 1 42 (by omega) (above_hop (n := 6) (by omega) (by omega) (by omega) (by omega)) (k := k) (Q := Q)
  have t1 {k : Vec F S1x256x1024 .f32 → P} := wp_take m K c true 6 1 42 (by omega) (above_hop (n := 6) (by omega) (by omega) (by omega) (by omega)) (k := k) (Q := Q)
  rw [passing_step c 6 (by omega)] at hfi
  rw [extra_one] at t0 t1
  unfold mid at hhe
  rw [onlyIf_pos (by omega), onlyIf_pos (by omega)] at hhe
  unfold St lastK
  rw [rowsGot_succ c 6]
  iintro ⟨#HR, Hd, Hst, Hs, Ht, Hp, Hrow⟩ Hk
  iapply hhe $$ [Hd Hs Ht Hp]
  · iframe; iexact HR
  iintro ⟨Hd, ⟨A1, A2, A0, A3, A4, A5, A6⟩, B1, B2, B0, B3, B4, B5, B6⟩
  iapply (wp_own m c) $$ Hst
  iintro Hst
  iapply (wp_departs m K c 5 42 (by omega)) $$ [Hd A5 A1 B5 B1]
  · isplitr; · iexact HR
    isplitl [Hd]; · iexact Hd
    iframe
  iintro ⟨Hd, A5, A1, B5, B1⟩
  iapply hfi $$ [Hd A3 B3]
  · isplitr; · iexact HR
    isplitl [Hd]; · iexact Hd
    iframe
  iintro ⟨Hd, A3, B3, A7, B7, -, -, Hr, -⟩
  iapply t0 $$ [Hd A4]
  · iframe; iexact HR
  iintro ⟨Hd, A4, A8, -⟩
  iapply t1 $$ [Hd B4]
  · iframe; iexact HR
  iintro ⟨Hd, B4, B8, -⟩
  iapply (wp_departs m K c 6 42 (by omega)) $$ [Hd A5 A2 B5 B2]
  · isplitr; · iexact HR
    isplitl [Hd]; · iexact Hd
    isplitl [A5]; · iexact A5
    isplitl [A2]; · iexact A2
    isplitl [B5]; · iexact B5
    iexact B2
  iintro ⟨Hd, A5, A2, B5, B2⟩
  iapply Hk
  unfold ended drained
  isplitl [Hd]; · iexact Hd
  isplitl [Hst]; · iexact Hst
  isplitl [A7 A8 A0 A1 A2]
  · isplitl [A7 A8]
    · isplitl [A7]; · iexact A7
      iexact A8
    isplitl [A0]; · iexact A0
    isplitl [A1]; · iexact A1
    iexact A2
  isplitl [B7 B8 B0 B1 B2]
  · isplitl [B7 B8]
    · isplitl [B7]; · iexact B7
      iexact B8
    isplitl [B0]; · iexact B0
    isplitl [B1]; · iexact B1
    iexact B2
  isplitl [A3 A4 A5 A6]
  · iframe
  isplitl [B3 B4 B5 B6]
  · iframe
  isplitl [Hr]; · iexact Hr
  iexact Hrow

end Cert.KernelIdeal.Ring

end
-- ==== Proof.Share.lean ====
/- The exchange of the devices' largest entries. -/
module

public import Idealize.ShloMosaic.Lib.ShareLeaves
public import proofs.«01_k».proof.Proof.Ends

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-! ## A program for each index in turn -/

/-- The indices from `n` on, and those before. -/
def rest (n : ℕ) : Finset (Fin 7) := Finset.univ.filter fun j => n ≤ j.val
@[inherit_doc rest] def done (n : ℕ) : Finset (Fin 7) := Finset.univ.filter fun j => j.val < n

/-- Seven programs in a row, each of which turns a resource of its own into another. -/
theorem wp_each (c : Dev nD) (f : Fin 7 → P → P) (R : ℕ → sProp 𝕄) (Φ Ψ : Fin 7 → sProp 𝕄) {k : P} {Q : PUnit → sProp 𝕄}
    (hf : ∀ (j : Fin 7) (p : P), iprop(recs m K ∗ R j.val ∗ Φ j) ⊢ iprop(((R (j.val + 1) ∗ Ψ j) -∗ WP c p Q) -∗ WP c (f j p) Q)) :
    ∀ (fuel n : ℕ) (h : n + fuel = 7), iprop(recs m K ∗ R n ∗ bigSep (rest n) Φ ∗ bigSep (done n) Ψ)
      ⊢ iprop(((R 7 ∗ bigSep Finset.univ Ψ) -∗ WP c k Q) -∗ WP c (eachK f k fuel n h) Q)
  | 0, n, h => by
    obtain rfl : n = 7 := by omega
    rw [show done 7 = Finset.univ by decide]
    unfold eachK
    iintro ⟨-, HR, -, Hd⟩ Hk
    iapply Hk
    iframe
  | fuel + 1, n, h => by
    have hr : rest n = insert (⟨n, by omega⟩ : Fin 7) (rest (n + 1)) := by
      ext j; simp only [rest, Finset.mem_filter, Finset.mem_univ, true_and, Finset.mem_insert, Fin.ext_iff]; omega
    have hd : done (n + 1) = insert (⟨n, by omega⟩ : Fin 7) (done n) := by
      ext j; simp only [done, Finset.mem_filter, Finset.mem_univ, true_and, Finset.mem_insert, Fin.ext_iff]; omega
    have h1 : bigSep (rest n) Φ = iprop(Φ ⟨n, by omega⟩ ∗ bigSep (rest (n + 1)) Φ) := by
      rw [hr]; exact bigSep_insert (by simp [rest])
    have h2 : bigSep (done (n + 1)) Ψ = iprop(Ψ ⟨n, by omega⟩ ∗ bigSep (done n) Ψ) := by
      rw [hd]; exact bigSep_insert (by simp [done])
    have ih := wp_each c f R Φ Ψ (k := k) hf fuel (n + 1) (by omega)
    have hn := hf ⟨n, by omega⟩ (eachK f k fuel (n + 1) (by omega))
    rw [h2] at ih
    rw [h1]
    unfold eachK
    iintro ⟨#HR, Hn, ⟨HΦ, Hr⟩, Hd⟩ Hk
    iapply hn $$ [Hn HΦ]
    · iframe; iexact HR
    iintro ⟨Hn, HΨ⟩
    iapply ih $$ [Hn Hr Hd HΨ]
    · iframe; iexact HR
    iexact Hk

theorem wp_all (c : Dev nD) (f : Fin 7 → P → P) (R : ℕ → sProp 𝕄) (Φ Ψ : Fin 7 → sProp 𝕄) {k : P} {Q : PUnit → sProp 𝕄}
    (hf : ∀ (j : Fin 7) (p : P), iprop(recs m K ∗ R j.val ∗ Φ j) ⊢ iprop(((R (j.val + 1) ∗ Ψ j) -∗ WP c p Q) -∗ WP c (f j p) Q)) :
    iprop(recs m K ∗ R 0 ∗ bigSep Finset.univ Φ) ⊢ iprop(((R 7 ∗ bigSep Finset.univ Ψ) -∗ WP c k Q) -∗ WP c (eachK f k 7 0 rfl) Q) := by
  have h := wp_each m K c f R Φ Ψ (k := k) hf 7 0 rfl
  rw [show rest 0 = Finset.univ by decide, show done 0 = ∅ by decide, bigSep_empty] at h
  iintro ⟨#HR, Hn, HΦ⟩
  iapply h
  iframe; isplitr; · iexact HR
  iempintro

/-! ## One transfer of the largest entry -/

theorem duties_asend (c : Dev nD) (j : Fin 7) : dutiesK c (.asend j.succ) 0 = {0} := by fin_cases j <;> rfl
theorem duties_arecv (c e : Dev nD) (h : c ≠ e) : dutiesK e (.arecv c) 0 = {0} := if_pos ⟨rfl, h⟩

/-- A row is the same elements with its unit axis or without. -/
theorem row_pts (e i : Dev nD) (f : Buf (Elt F) ((rowM i).view.loc (e : Thread nD τ))) :
    (((rowOf i).view.loc (e : Thread nD τ) ↦[(rowOf i).view.set]{fullShare} f : sProp 𝕄))
      = ((rowM i).view.loc (e : Thread nD τ) ↦[(rowM i).view.set]{fullShare} f) :=
  congrArg (fun S => (((rowM i).view.loc (e : Thread nD τ) ↦[S]{fullShare} f : sProp 𝕄)))
    (View.set_reshape (rowM i).view squeezes_S1x8x128_S8x128.numel_eq)

/-- What lands in a row is the sender's entry throughout. -/
theorem row_sent (c e : Dev nD) (fd : Buf (Elt F) ((rowOf c).view.loc (e : Thread nD τ))) :
    ((rowOf c).view.loc (e : Thread nD τ) ↦[(rowOf c).view.set]{fullShare}
        ((rowOf c).view.write (Elt F) fd (amaxSrc.view.read (Elt F) (lamBuf m c)) Finset.univ)) ⊢ rowAt (F := F) e c (lam m c) := by
  have h1 : (rowM c).view.read (Elt F) ((rowOf c).view.write (Elt F) fd (amaxSrc.view.read (Elt F) (lamBuf m c)) Finset.univ) = fun _ => lam m c := by
    funext y
    have hx := congrFun (View.read_write_univ (Val := Elt F) (v := (rowOf c).view) fd (amaxSrc.view.read (Elt F) (lamBuf m c)))
      ((Shape.reshapeEquiv squeezes_S1x8x128_S8x128.numel_eq).symm y)
    refine Eq.trans ?_ hx
    rw [View.read_apply, View.read_apply, View.emb_reshape]
    simp
  have h2 := owns_intro (Ix := ℕ) (Name := ℕ) (U := UU) (Lvl := ℕ) (e : Thread nD τ) (rowM c) fullShare
    ((rowOf c).view.write (Elt F) fd (amaxSrc.view.read (Elt F) (lamBuf m c)) Finset.univ)
  rw [row_pts]; unfold rowAt; rw [← h1]; exact h2

/-- The transfer of the entry to the device `j + 1` places to the right. -/
theorem wp_asend (c : Dev nD) (j : Fin 7) {k : P} {Q : PUnit → sProp 𝕄} :
    iprop(recs m K ∗ debt (F := F) c (42 + j.val) ∗ (srcLeaf m c j.succ ∗ anyRow (F := F) (peer j c) c))
      ⊢ iprop(((debt (F := F) c (42 + (j.val + 1)) ∗ cred (tallyAt (kcell c (.asend j.succ)) 0 NA)) -∗ WP c k Q) -∗ WP c (asendK c j k) Q) := by
  have ht : debt (F := F) c (42 + j.val)
      ⊢ iprop((∃ W, owes (c : Thread nD τ) (O c (42 + j.val + 1) + tallyAt (kcell (peer j c) (.arecv c)) 100 NA) W)
        ∗ iprop(dutyTok ER (kcell (peer j c) (.arecv c)) 0 0 ∗ dutyTok ER (kcell c (.asend j.succ)) 0 0)
        ∗ bigSep (pending (42 + j.val + 1)) (tok (F := F) c)) := debt_take (F := F) c (.amx j)
  have hs (fd : Buf (Elt F) ((rowOf c).view.loc (peer j c : Thread nD τ))) (W : Waits sig ℕ) :
      iprop(cellInv ER (Rd m) (K (c, .asend j.succ)) (kcell c (.asend j.succ)) ∗ cellInv ER (Rd m) (K (peer j c, .arecv c)) (kcell (peer j c) (.arecv c))
        ∗ srcLeaf m c j.succ
        ∗ (((rowOf c).view.loc (peer j c : Thread nD τ) ↦[(rowOf c).view.set]{fullShare} fd) ∗ iprop(emp))
        ∗ owes (c : Thread nD τ) (O c (42 + j.val + 1) + tallyAt (kcell (peer j c) (.arecv c)) 100 NA) W
        ∗ dutyTok ER (kcell c (.asend j.succ)) 0 0 ∗ reached ER (kcell c (.asend j.succ)) 0
        ∗ dutyTok ER (kcell (peer j c) (.arecv c)) 0 0 ∗ reached ER (kcell (peer j c) (.arecv c)) 0)
      ⊢ iprop(((cred (tallyAt (kcell c (.asend j.succ)) 0 NA) ∗ owes (c : Thread nD τ) (O c (42 + j.val + 1)) W) -∗ WP c k Q) -∗ WP c (asendK c j k) Q) := by
    have e1 : kcell c (.asend j.succ) = ((c : Thread nD τ), .dma (asendSem j)) := by unfold kcell; rw [← asend_eq]
    unfold asendK srcLeaf
    rw [e1]
    exact Rounds.wp_send_pointsTo_with 𝒱₀ ER (Rd m) (c : Thread nD τ) none (c' := (peer j c : Thread nD τ)) (src := amaxSrc) (dst := rowOf c)
      (sS := .dma (asendSem j)) (sem := .dma (arecvSem c)) (r₁ := 0) (r₂ := 0) (d₁ := 0) (d₂ := 0)
      (k := fun _ => k) (Q := Q) (κ₁ := K (c, .asend j.succ)) (κ₂ := K (peer j c, .arecv c)) (W := W) (Es := Set.univ)
      (by rw [← e1, Rd_duties]; rw [duties_asend]; exact Finset.mem_singleton_self _)
      (show 0 ∈ (Rd m).duties (kcell (peer j c) (.arecv c)) 0 by
        rw [Rd_duties]; rw [duties_arecv _ _ (peer_ne j c).symm]; exact Finset.mem_singleton_self _)
      100 0 NA rfl
      (by rw [← e1]; exact Rd_amount m c (.asend j.succ) 0 0) (Rd_amount m (peer j c) (.arecv c) 0 0)
      (O c (42 + j.val + 1)) rfl
      (by rw [← e1, Rd_payload]; exact Entails.of_eq rfl)
      (by
        refine Eq.mpr (congrArg (fun X => iprop(_ ∗ emp) ⊢ X) ((Rd_payload m (peer j c) (.arecv c) 0 0).trans (show _ = rowAt (F := F) (peer j c) c (lam m c) from rfl))) ?_
        iintro ⟨H, -⟩
        iapply (row_sent m c (peer j c) fd)
        iexact H)
  iintro ⟨#HR, Hd, Hsrc, Hdst⟩ Hk
  ihave Hd := ht $$ Hd
  icases Hd with ⟨⟨%W, Ho⟩, ⟨Ht, Hts⟩, Hr⟩
  unfold anyRow owns
  icases Hdst with ⟨%X, %fd, %hfd, Hdd⟩
  iapply (hs fd W) $$ [Ho Ht Hts Hsrc Hdd]
  · isplitr; · iapply (recs_inv m K c (.asend j.succ)); iexact HR
    isplitr; · iapply (recs_inv m K (peer j c) (.arecv c)); iexact HR
    isplitl [Hsrc]; · iexact Hsrc
    isplitl [Hdd]
    · isplitl [Hdd]; · iapply (Entails.of_eq (row_pts (F := F) (peer j c) c fd).symm); iexact Hdd
      iempintro
    isplitl [Ho]; · iexact Ho
    isplitl [Hts]; · iexact Hts
    isplitr; · iapply (recs_reached m K c (.asend j.succ)); iexact HR
    isplitl [Ht]; · iexact Ht
    iapply (recs_reached m K (peer j c) (.arecv c)); iexact HR
  iintro ⟨Hc, Ho⟩
  iapply Hk
  isplitr [Hc]
  · unfold debt
    isplitl [Ho]; · iexists W; iexact Ho
    iexact Hr
  iexact Hc

theorem above_end (i : ℕ) : Above i 49 := fun op h => by
  rcases op with b | ⟨b, s, u⟩ | ⟨b, s⟩ | j
  all_goals (try cases b) <;> simp only [Op.tm, Bool.toNat_false, Bool.toNat_true] at h <;> omega

/-- The entry of the device `j + 1` places to the right is in. -/
theorem wp_aarrive (c : Dev nD) (j : Fin 7) {k : P} {Q : PUnit → sProp 𝕄} :
    iprop(recs m K ∗ debt (F := F) c 49 ∗ (cred (tallyAt (kcell c (.arecv (peer j c))) 100 NA) ∗ atPos ER (kcell c (.arecv (peer j c))) 0 ∅ 0))
      ⊢ iprop(((debt (F := F) c 49 ∗ (atPos ER (kcell c (.arecv (peer j c))) 1 ∅ 0 ∗ rowAt (F := F) c (peer j c) (lam m (peer j c)))) -∗ WP c k Q)
        -∗ WP c (aarriveK c j k) Q) := by
  have hw := wp_wait_one m K c (.arecv (peer j c)) 0 100 49 NA (above_end _) (by omega) (if_pos ⟨rfl, peer_ne j c⟩) rfl
    (w := .waitDma2 (awaitSem c j) amaxSrc (awaitRow c j) (Memref.isWhole_whole _).wordExact ((View.wordExact_bits rfl).reshape _ _))
    (fun _ => by rw [← await_eq]; rfl) (k := fun _ => k) (Q := Q)
  iintro ⟨#HR, Hd, Hc, Hat⟩ Hk
  unfold aarriveK
  iapply hw $$ [Hd Hc Hat]
  · isplitr; · iexact HR
    isplitl [Hd]; · iexact Hd
    isplitl [Hc]; · iexact Hc
    iexact Hat
  iintro ⟨Hd, Hat, -, Hp⟩
  ihave Hp := (Entails.of_eq (show payK m c (.arecv (peer j c)) 0 0 = rowAt (F := F) c (peer j c) (lam m (peer j c)) from rfl)) $$ Hp
  iapply Hk
  isplitl [Hd]; · iexact Hd
  isplitl [Hat]; · iexact Hat
  iexact Hp

/-- The own entry's `j`-th transfer is over. -/
theorem wp_adepart (c : Dev nD) (j : Fin 7) {k : P} {Q : PUnit → sProp 𝕄} :
    iprop(recs m K ∗ debt (F := F) c 49 ∗ (cred (tallyAt (kcell c (.asend j.succ)) 0 NA) ∗ atPos ER (kcell c (.asend j.succ)) 0 ∅ 0))
      ⊢ iprop(((debt (F := F) c 49 ∗ (atPos ER (kcell c (.asend j.succ)) 1 ∅ 0 ∗ srcLeaf m c j.succ)) -∗ WP c k Q)
        -∗ WP c (adepartK c j k) Q) := by
  have hw := wp_wait_one m K c (.asend j.succ) 0 0 49 NA (above_end _) (by omega) (duties_asend c j) rfl
    (w := .waitDma2 (asendSem j) (rowOf c) amaxSrc ((View.wordExact_bits rfl).reshape _ _) (Memref.isWhole_whole _).wordExact)
    (fun _ => by rw [← asend_eq]; rfl) (k := fun _ => k) (Q := Q)
  iintro ⟨#HR, Hd, Hc, Hat⟩ Hk
  unfold adepartK
  iapply hw $$ [Hd Hc Hat]
  · isplitr; · iexact HR
    isplitl [Hd]; · iexact Hd
    isplitl [Hc]; · iexact Hc
    iexact Hat
  iintro ⟨Hd, Hat, -, Hp⟩
  ihave Hp := (Entails.of_eq (show payK m c (.asend j.succ) 0 0 = srcLeaf m c j.succ from rfl)) $$ Hp
  iapply Hk
  isplitl [Hd]; · iexact Hd
  isplitl [Hat]; · iexact Hat
  iexact Hp

/-! ## The exchange -/

/-- The rows a device was given, by the device they lie on. -/
theorem rowsGot_peers (c : Dev nD) : rowsGot (F := F) c 7 = bigSep Finset.univ fun j : Fin 7 => anyRow (F := F) (peer j c) c := by
  unfold rowsGot
  rw [show (Finset.univ : Finset (Fin 7)) = Finset.univ.map ⟨Fin.rev, Fin.rev_injective⟩ by decide, bigSep_map]
  refine Eq.symm (Idealize.ShloMosaic.Ring.bigSep_fin_eq_range 7 (fun j : Fin 7 => anyRow (F := F) (peer j.rev c) c) _ fun t h => ?_)
  symm
  show anyRow (F := F) (peer (Fin.rev ⟨t, h⟩) c) c = _
  rw [peer_eq, Fin.val_rev, show 1 + (7 - (t + 1)) = 7 - t by omega]

/-- The published vector in its eight parts. -/
theorem src_leaves (c : Dev nD) : owns (c : Thread nD τ) amaxSrc fullShare (lamaxV (lam m c) : FVec F S8x128 .f32)
    = iprop(srcLeaf m c 0 ∗ bigSep Finset.univ fun j : Fin 7 => srcLeaf m c j.succ) := by
  have h := ShareLeaves.pointsTo_leaves (Ix := ℕ) (Name := ℕ) (U := UU) (Lvl := ℕ) (ℓ := amaxSrc.view.loc (c : Thread nD τ)) amaxSrc.view.set (lamBuf m c) 3 fullShare
  have hu : (Finset.univ : Finset (Fin (2 ^ 3))) = insert (0 : Fin 8) (Finset.univ.map ⟨Fin.succ, Fin.succ_injective 7⟩) := by decide
  rw [hu, bigSep_insert (by decide), bigSep_map] at h
  refine Eq.trans (owns_whole (c : Thread nD τ) cc0_scratch2 fullShare _) (Eq.trans ?_ h)
  rw [show amaxSrc.view.set = Finset.univ from View.set_whole _]
  rfl

/-- A rectangle that is the whole shape. -/
theorem full_emb {s : Shape} (off : Fin s.rank → ℕ) (hoff : ∀ a, off a = 0) (inb : ∀ a, off a + s.size a ≤ s.size a) (i : s.Idx) :
    (Rect.unit (s := s) off s.size inb).emb i = i := by
  funext a
  refine Fin.ext ((unit_val (s := s) i a).trans ?_)
  rw [hoff]; exact Nat.zero_add _

/-- What the exchange waits on. -/
def shareAt (c : Dev nD) : sProp 𝕄 :=
  iprop((bigSep Finset.univ fun j : Fin 7 => iprop(cred (tallyAt (kcell c (.arecv (peer j c))) 100 NA) ∗ atPos ER (kcell c (.arecv (peer j c))) 0 ∅ 0))
    ∗ bigSep Finset.univ fun j : Fin 7 => atPos ER (kcell c (.asend j.succ)) 0 ∅ 0)
/-- and what it leaves. -/
def sharedAt (c : Dev nD) : sProp 𝕄 :=
  iprop((bigSep Finset.univ fun j : Fin 7 => atPos ER (kcell c (.arecv (peer j c))) 1 ∅ 0)
    ∗ bigSep Finset.univ fun j : Fin 7 => atPos ER (kcell c (.asend j.succ)) 1 ∅ 0)

theorem wp_share (c : Dev nD) (a : F .f32) {k : Vec F S8x8x128 .f32 → P} {Q : PUnit → sProp 𝕄} :
    iprop(recs m K ∗ debt (F := F) c 42 ∗ (∃ X, owns (Val := Elt F) (c : Thread nD τ) amaxSrc fullShare X) ∗ rowAt (F := F) c c a ∗ rowsGot (F := F) c 7 ∗ shareAt (F := F) c)
      ⊢ iprop(((debt (F := F) c 49 ∗ (∃ X, owns (Val := Elt F) (c : Thread nD τ) amaxSrc fullShare X) ∗ owns (c : Thread nD τ) amaxBuf fullShare (allV m c a)
            ∗ sharedAt (F := F) c) -∗ WP c (k (allV m c a)) Q) -∗ WP c (shareK c (lam m c) k) Q) := by
  have h1 {p : P} := wp_all m K c (asendK c) (fun n => debt (F := F) c (42 + n)) _ _ (k := p) (Q := Q) (fun j p => wp_asend m K c j)
  have h2 {p : P} := wp_all m K c (aarriveK c) (fun _ => debt (F := F) c 49) _ _ (k := p) (Q := Q) (fun j p => wp_aarrive m K c j)
  have h3 {p : P} := wp_all m K c (adepartK c) (fun _ => debt (F := F) c 49) _ _ (k := p) (Q := Q) (fun j p => wp_adepart m K c j)
  simp only [bigSep_sep'] at h1 h2 h3
  rw [rowsGot_peers]
  unfold shareK shareAt sharedAt
  simp only [bigSep_sep']
  iintro ⟨#HR, Hd, ⟨%X, Hs⟩, Hrow, Hrows, ⟨Hac, Hat⟩, Hdt⟩ Hk
  iapply (wp_look c amaxSrc X _) $$ Hs
  iintro Hs
  iapply (wp_put c amaxSrc X _ _) $$ Hs
  iintro ⟨%X', %hX, Hs⟩
  have hX' : X' = lamaxV (lam m c) := funext fun i => by
    refine Eq.trans (congrArg X' (full_emb _ (fun a => ?_) _ i).symm) (hX.1 i)
    fin_cases a <;> rfl
  rw [hX']
  ihave Hs := (Entails.of_eq (src_leaves m c)) $$ Hs
  icases Hs with ⟨Hs0, Hs⟩
  iapply h1 $$ [Hd Hs Hrows]
  · isplitr; · iexact HR
    isplitl [Hd]; · iexact Hd
    iframe
  iintro ⟨Hd, Hdc⟩
  iapply h2 $$ [Hd Hac Hat]
  · isplitr; · iexact HR
    isplitl [Hd]; · iexact Hd
    iframe
  iintro ⟨Hd, Hat, Hrows⟩
  iapply h3 $$ [Hd Hdc Hdt]
  · isplitr; · iexact HR
    isplitl [Hd]; · iexact Hd
    iframe
  iintro ⟨Hd, Hdt, Hs⟩
  ihave Hb := (rows_join m c a) $$ [Hrow Hrows]
  · iframe
  ihave Hs := (Entails.of_eq (src_leaves m c).symm) $$ [Hs0 Hs]
  · iframe
  iapply (wp_look c amaxBuf (allV m c a) _) $$ Hb
  iintro Hb
  rw [show (fun j => allV m c a ((Rect.unit (s := S8x8x128) ![0, 0, 0] S8x8x128.size inb_S8x8x128_S8x8x128_0_0_0).emb j)) = allV m c a from
    funext fun i => congrArg (allV m c a) (full_emb _ (fun a => by fin_cases a <;> rfl) _ i)]
  iapply Hk
  isplitl [Hd]; · iexact Hd
  isplitl [Hs]; · iexists _; iexact Hs
  isplitl [Hb]; · iexact Hb
  iframe

end Cert.KernelIdeal.Ring

end
-- ==== Proof.Body.lean ====
/- The whole body on one device. -/
module

public import proofs.«01_k».proof.Proof.Share

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-- The first and the second half of the columns. -/
theorem mem_col (b : Bool) (i : S512x2048.Idx) : i ∈ (colR b).set ↔ (match b with | false => (i 1).val < 1024 | true => 1024 ≤ (i 1).val) := by
  have h1 : (i 1).val < 2048 := (i 1).isLt
  have h0 : (i 0).val < 512 := (i 0).isLt
  rw [show colR b = Rect.unit (s := S512x2048) ![0, match b with | false => 0 | true => 1024] S512x1024.size (inb_col b) from rfl, Rect.mem_set_unit]
  constructor
  · intro h
    have := h 1
    cases b
    · have h2 : (i 1).val < 0 + 1024 := this.2
      show (i 1).val < 1024; omega
    · exact this.1
  · intro h a
    revert a
    refine Fin.forall_fin_succ.mpr ⟨?_, Fin.forall_fin_succ.mpr ⟨?_, fun a => a.elim0⟩⟩
    · show 0 ≤ (i 0).val ∧ (i 0).val < 0 + 512; omega
    · cases b
      · show 0 ≤ (i 1).val ∧ (i 1).val < 0 + 1024
        have h' : (i 1).val < 1024 := h
        omega
      · show 1024 ≤ (i 1).val ∧ (i 1).val < 1024 + 1024
        have h' : 1024 ≤ (i 1).val := h
        omega

/-- A direction's columns of the result: what the last step leaves in slot 3, quantised. -/
def colV (c : Dev nD) (b : Bool) : FVec F S512x1024 .f32 := k0_pay4 (k0_pay66 (joined (acc m b c 7))) (lam m c) (allV m c zeroV)

/-- The result on device `c`. -/
def outV (c : Dev nD) : S512x2048.Idx → Elt F .f32 := fun i =>
  if h : (i 1).val < 1024 then colV m c false (ix2 (n0 := 512) (n1 := 1024) ⟨(i 0).val, (i 0).isLt⟩ ⟨(i 1).val, h⟩)
  else colV m c true (ix2 (n0 := 512) (n1 := 1024) ⟨(i 0).val, (i 0).isLt⟩ ⟨(i 1).val - 1024, by have h2 : (i 1).val < 2048 := (i 1).isLt; omega⟩)

theorem colR_val (b : Bool) (j : S512x1024.Idx) (a : Fin 2) : ((colR b).emb j a : ℕ) = (![0, match b with | false => 0 | true => 1024] : Fin 2 → ℕ) a + j a :=
  unit_val (s := S512x2048) j a

theorem outV_col (c : Dev nD) (b : Bool) (j : S512x1024.Idx) : outV m c ((colR b).emb j) = colV m c b j := by
  have hj : (j 1).val < 1024 := (j 1).isLt
  have h0 : ((colR b).emb j 0).val = (j 0).val := (colR_val b j 0).trans (Nat.zero_add _)
  unfold outV
  cases b
  · have h1' : ((colR false).emb j 1).val = 0 + (j 1).val := colR_val _ j 1
    rw [dif_pos (by omega)]
    congr 1
    funext a
    refine Fin.ext ?_
    revert a
    refine Fin.forall_fin_succ.mpr ⟨h0, Fin.forall_fin_succ.mpr ⟨?_, fun a => a.elim0⟩⟩
    exact h1'.trans (Nat.zero_add _)
  · have h1' : ((colR true).emb j 1).val = 1024 + (j 1).val := colR_val _ j 1
    rw [dif_neg (by omega)]
    congr 1
    funext a
    refine Fin.ext ?_
    revert a
    refine Fin.forall_fin_succ.mpr ⟨h0, Fin.forall_fin_succ.mpr ⟨?_, fun a => a.elim0⟩⟩
    show ((colR true).emb j 1).val - 1024 = (j 1).val
    omega

/-- Contents that agree with the result on both halves of the columns are the result. -/
theorem outV_of (c : Dev nD) (X X' : S512x2048.Idx → Elt F .f32) (h : ∀ j, X ((colR false).emb j) = colV m c false j)
    (h' : ∀ j, X' ((colR true).emb j) = colV m c true j) (hX : ∀ i, i ∉ (colR true).set → X' i = X i) : X' = outV m c := by
  funext i
  by_cases hi : (i 1).val < 1024
  · obtain ⟨j, -, rfl⟩ := Finset.mem_map.mp ((Rect.map_emb_univ _).symm ▸ (mem_col false i).mpr hi)
    rw [outV_col, ← h]
    exact hX _ fun hm => absurd ((mem_col true _).mp hm) (Nat.not_le.mpr hi)
  · obtain ⟨j, -, rfl⟩ := Finset.mem_map.mp ((Rect.map_emb_univ _).symm ▸ (mem_col true i).mpr (Nat.not_lt.mp hi))
    rw [outV_col, ← h']

/-- Both halves of the result are written. -/
theorem wp_outs (c : Dev nD) {k : P} {Q : PUnit → sProp 𝕄} :
    iprop(∃ X, owns (Val := Elt F) (c : Thread nD τ) os fullShare X)
      ⊢ iprop((owns (c : Thread nD τ) os fullShare (outV m c) -∗ WP c k Q)
        -∗ WP c (outK false (joined (acc m false c 7)) (lam m c) (allV m c zeroV) (outK true (joined (acc m true c 7)) (lam m c) (allV m c zeroV) k)) Q) := by
  unfold outK
  iintro ⟨%X, H⟩ Hk
  iapply (wp_look c os X (colR false)) $$ H; iintro H
  iapply (wp_put c os X (colR false) (colV m c false)) $$ H
  iintro ⟨%X1, %h1, H⟩
  iapply (wp_look c os X1 (colR true)) $$ H; iintro H
  iapply (wp_put c os X1 (colR true) (colV m c true)) $$ H
  iintro ⟨%X2, %h2, H⟩
  iapply Hk
  rw [← outV_of m c X1 X2 h1.1 h2.1 h2.2]
  iexact H

/-- What is left at the end besides the staged operands and the result. -/
def finished (c : Dev nD) : sProp 𝕄 :=
  iprop((∃ X, owns (Val := Elt F) (c : Thread nD τ) (comm false) fullShare X) ∗ (∃ X, owns (Val := Elt F) (c : Thread nD τ) (comm true) fullShare X)
    ∗ (∃ X, owns (Val := Elt F) (c : Thread nD τ) amaxSrc fullShare X) ∗ (∃ X, owns (Val := Elt F) (c : Thread nD τ) amaxBuf fullShare X)
    ∗ atPos ER (kcell c .bar) 1 ∅ 0 ∗ drained (F := F) c false ∗ drained (F := F) c true ∗ sharedAt (F := F) c)

/-- A slot is read at the end. -/
theorem wp_slot (c : Dev nD) (b : Bool) {k : Vec F S1x512x1024 .f32 → P} {Q : PUnit → sProp 𝕄} :
    ended m c b ⊢ iprop(((∃ X, owns (Val := Elt F) (c : Thread nD τ) (comm b) fullShare X) -∗ WP c (k (joined (acc m b c 7))) Q) -∗ WP c (slotK b k) Q) := by
  unfold slotK ended
  iintro H Hk
  ihave H := (comm_join c b (acc m b c 7)) $$ H
  icases H with ⟨%X, %hX, H⟩
  rw [← hX]
  iapply (wp_look c (comm b) X (slotR 3)) $$ H
  iintro H
  iapply Hk
  iexists X; iexact H

/-- The whole body on device `c`. -/
theorem wp_bodyOn (c : Dev nD) {Q : PUnit → sProp 𝕄} :
    iprop(recs m K ∗ debt (F := F) c 0 ∗ staged m c ∗ (∃ X, owns (Val := Elt F) (c : Thread nD τ) os fullShare X) ∗ fresh (F := F) c false ∗ fresh (F := F) c true
      ∗ (∃ X, owns (Val := Elt F) (c : Thread nD τ) amaxSrc fullShare X) ∗ (∃ X, owns (Val := Elt F) (c : Thread nD τ) amaxBuf fullShare X)
      ∗ cred (tallyAt (kcell c .bar) 1 1) ∗ cred (tallyAt (kcell c .bar) 1 1) ∗ atPos ER (kcell c .bar) 0 ∅ 0 ∗ shareAt (F := F) c)
      ⊢ iprop(((debt (F := F) c 49 ∗ staged m c ∗ owns (c : Thread nD τ) os fullShare (outV m c) ∗ finished (F := F) c) -∗ |={Set.univ}=> Q ⟨⟩) -∗ WP c (bodyOn c) Q) := by
  unfold bodyOn
  iintro ⟨#HR, Hd, Hs, Ho, Hf, Ht, Ha, Hb, Hc1, Hc2, Hp, Hsh⟩ Hk
  iapply (wp_start m K c) $$ [Hd Hs Hf Ht Hb Hc1 Hc2 Hp]
  · iframe; iexact HR
  iintro ⟨Hd, Hs, Hf, Ht, Hrow, Hpass, Hp⟩
  iapply (wp_zero m K c) $$ [Hd Hs Hf Ht Hpass]
  · iframe; iexact HR
  iintro HS
  iapply (wp_mids m K c 5 0 rfl) $$ [HS]
  · iframe; iexact HR
  iintro HS
  iapply (wp_last m K c) $$ [HS]
  · iframe; iexact HR
  iintro ⟨Hd, Hs, Hf, Ht, Hdf, Hdt, Hrows⟩
  iapply (wp_slot m c false) $$ Hf; iintro Hf
  iapply (wp_slot m c true) $$ Ht; iintro Ht
  rw [show lamax (gs m c 7) (acc m false (nb true c) 6 0) (acc m true (nb false c) 6 0) (acc m false (nb true c) 6 1) (acc m true (nb false c) 6 1) = lam m c from rfl]
  iapply (wp_share m K c zeroV) $$ [Hd Ha Hrow Hrows Hsh]
  · iframe; iexact HR
  iintro ⟨Hd, Ha, Hb, Hsh⟩
  iapply (wp_outs m c) $$ Ho; iintro Ho
  unfold WP; rw [wp_ret]
  iapply Hk
  unfold finished
  iframe
  iexists _; iexact Hb

end Cert.KernelIdeal.Ring

end
-- ==== Proof.Deal.lean ====
/- A device's semaphores, payments and credit dealt out at the start and gathered in at the end. -/
module

public import proofs.«01_k».proof.Proof.Body

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

/-! ## All of a device's semaphores, and all of its payments, in order -/

omit [FloatOps F] in
theorem bool_list (Φ : Bool → sProp 𝕄) : bigSep Finset.univ Φ = iprop(Φ false ∗ Φ true) := bigSep_univ_eq_bigSepL [false, true] (by decide) (by decide) Φ
omit [FloatOps F] in
theorem two_list (Φ : Fin 2 → sProp 𝕄) : bigSep Finset.univ Φ = iprop(Φ 0 ∗ Φ 1) := bigSep_univ_eq_bigSepL [0, 1] (by decide) (by decide) Φ
omit [FloatOps F] in
theorem eight_list (Φ : Fin 8 → sProp 𝕄) : bigSep Finset.univ Φ = iprop(Φ 0 ∗ bigSep Finset.univ fun j : Fin 7 => Φ j.succ) := by
  have h : Finset.univ.erase (0 : Fin 8) = (Finset.univ : Finset (Fin 7)).map ⟨Fin.succ, Fin.succ_injective 7⟩ := by decide
  rw [bigSep_univ_at Φ 0, h, bigSep_map]; rfl

/-- The slots, each read one further. -/
def turn : Fin 4 ≃ Fin 4 := ⟨fun i => sl (i.val + 1), fun i => sl (i.val + 3), by decide, by decide⟩

/-- What belongs to a direction. -/
def dirKeys (Φ : Key → sProp 𝕄) (b : Bool) : sProp 𝕄 :=
  iprop(Φ (.cred b)
    ∗ ((bigSep Finset.univ fun i : Fin 4 => Φ (.recv b (sl (i.val + 1)) 0)) ∗ bigSep Finset.univ fun i : Fin 4 => Φ (.recv b (sl (i.val + 1)) 1))
    ∗ (bigSep Finset.univ fun i : Fin 4 => Φ (.send b i 0)) ∗ bigSep Finset.univ fun i : Fin 4 => Φ (.send b i 1))

omit [FloatOps F] in
theorem slots_split (Φ : Bool × Fin 4 × Fin 2 → sProp 𝕄) : bigSep Finset.univ Φ
    = iprop(((bigSep Finset.univ fun i : Fin 4 => Φ (false, i, 0)) ∗ bigSep Finset.univ fun i : Fin 4 => Φ (false, i, 1))
      ∗ (bigSep Finset.univ fun i : Fin 4 => Φ (true, i, 0)) ∗ bigSep Finset.univ fun i : Fin 4 => Φ (true, i, 1)) := by
  rw [bigSep_univ_prod, bool_list]; simp only [bigSep_univ_prod, two_list, bigSep_sep']

/-- A device's semaphores, for the proof of device `c`. -/
theorem key_split (c : Dev nD) (Φ : Key → sProp 𝕄) : bigSep Finset.univ Φ
    = iprop(Φ .bar ∗ dirKeys Φ false ∗ dirKeys Φ true ∗ (Φ (.asend 0) ∗ bigSep Finset.univ fun j : Fin 7 => Φ (.asend j.succ))
      ∗ (Φ (.arecv c) ∗ bigSep Finset.univ fun j : Fin 7 => Φ (.arecv (peer j c)))) := by
  have hs (b : Bool) (u : Fin 2) : (bigSep Finset.univ fun i : Fin 4 => Φ (.recv b i u)) = bigSep Finset.univ fun i : Fin 4 => Φ (.recv b (sl (i.val + 1)) u) :=
    bigSep_univ_equiv turn _
  rw [bigSep_univ_equiv Key.equiv.symm Φ, bigSep_univ_sum, bigSep_univ_sum, bigSep_univ_sum, bigSep_univ_sum, bigSep_univ_sum, slots_split, slots_split, bool_list, eight_list,
    rows_own (F := F) c, bigSep_univ_eq_bigSepL [()] (by decide) (by decide)]
  refine Idealize.SL.BI.Entails.antisymm ?_ ?_
  · show iprop((Φ .bar ∗ Φ (.cred false) ∗ Φ (.cred true))
      ∗ ((((bigSep Finset.univ fun i : Fin 4 => Φ (.send false i 0)) ∗ bigSep Finset.univ fun i : Fin 4 => Φ (.send false i 1))
            ∗ (bigSep Finset.univ fun i : Fin 4 => Φ (.send true i 0)) ∗ bigSep Finset.univ fun i : Fin 4 => Φ (.send true i 1))
          ∗ ((bigSep Finset.univ fun i : Fin 4 => Φ (.recv false i 0)) ∗ bigSep Finset.univ fun i : Fin 4 => Φ (.recv false i 1))
            ∗ (bigSep Finset.univ fun i : Fin 4 => Φ (.recv true i 0)) ∗ bigSep Finset.univ fun i : Fin 4 => Φ (.recv true i 1))
      ∗ (Φ (.asend 0) ∗ bigSep Finset.univ fun j : Fin 7 => Φ (.asend j.succ)) ∗ (Φ (.arecv c) ∗ bigSep Finset.univ fun j : Fin 7 => Φ (.arecv (peer j c)))) ⊢ _
    rw [hs, hs, hs, hs]; unfold dirKeys
    iintro ⟨⟨H1, H2, H3⟩, ⟨⟨⟨A0, A1⟩, A2, A3⟩, ⟨B0, B1⟩, B2, B3⟩, ⟨C0, C1⟩, D0, D1⟩
    iframe
  · show _ ⊢ iprop((Φ .bar ∗ Φ (.cred false) ∗ Φ (.cred true))
      ∗ ((((bigSep Finset.univ fun i : Fin 4 => Φ (.send false i 0)) ∗ bigSep Finset.univ fun i : Fin 4 => Φ (.send false i 1))
            ∗ (bigSep Finset.univ fun i : Fin 4 => Φ (.send true i 0)) ∗ bigSep Finset.univ fun i : Fin 4 => Φ (.send true i 1))
          ∗ ((bigSep Finset.univ fun i : Fin 4 => Φ (.recv false i 0)) ∗ bigSep Finset.univ fun i : Fin 4 => Φ (.recv false i 1))
            ∗ (bigSep Finset.univ fun i : Fin 4 => Φ (.recv true i 0)) ∗ bigSep Finset.univ fun i : Fin 4 => Φ (.recv true i 1))
      ∗ (Φ (.asend 0) ∗ bigSep Finset.univ fun j : Fin 7 => Φ (.asend j.succ)) ∗ (Φ (.arecv c) ∗ bigSep Finset.univ fun j : Fin 7 => Φ (.arecv (peer j c))))
    rw [hs, hs, hs, hs]; unfold dirKeys
    iintro ⟨H1, ⟨H2, ⟨B0, B1⟩, A0, A1⟩, ⟨H3, ⟨B2, B3⟩, A2, A3⟩, ⟨C0, C1⟩, D0, D1⟩
    iframe

/-- What a direction is owed. -/
def dirOps (Ψ : Op → sProp 𝕄) (b : Bool) : sProp 𝕄 :=
  iprop(((bigSep Finset.univ fun s : Fin 7 => Ψ (.hop b s 0)) ∗ bigSep Finset.univ fun s : Fin 7 => Ψ (.hop b s 1)) ∗ bigSep Finset.univ fun s : Fin 6 => Ψ (.crd b s))

omit [FloatOps F] in
/-- A device's payments. -/
theorem op_split (Ψ : Op → sProp 𝕄) : bigSep Finset.univ Ψ
    ⊢ iprop((Ψ (.bar false) ∗ Ψ (.bar true)) ∗ dirOps Ψ false ∗ dirOps Ψ true ∗ bigSep Finset.univ fun j : Fin 7 => Ψ (.amx j)) := by
  rw [bigSep_univ_equiv Op.equiv.symm Ψ, bigSep_univ_sum, bigSep_univ_sum, bigSep_univ_sum]
  simp only [bigSep_univ_prod, two_list, bigSep_sep', bool_list]
  unfold dirOps
  show iprop(((Ψ (.bar false) ∗ Ψ (.bar true))
      ∗ ((bigSep Finset.univ fun s : Fin 7 => Ψ (.hop false s 0)) ∗ bigSep Finset.univ fun s : Fin 7 => Ψ (.hop true s 0))
        ∗ (bigSep Finset.univ fun s : Fin 7 => Ψ (.hop false s 1)) ∗ bigSep Finset.univ fun s : Fin 7 => Ψ (.hop true s 1))
    ∗ ((bigSep Finset.univ fun s : Fin 6 => Ψ (.crd false s)) ∗ bigSep Finset.univ fun s : Fin 6 => Ψ (.crd true s))
    ∗ bigSep Finset.univ fun j : Fin 7 => Ψ (.amx j)) ⊢ _
  iintro ⟨⟨⟨H1, H2⟩, ⟨A0, A2⟩, A1, A3⟩, ⟨B1, B2⟩, C⟩
  iframe

/-! ## The launch's credit -/

omit [FloatOps F] in
/-- A device is credited with what every device owes it. -/
theorem launch_creds (c : Dev nD) : (Pipeline.launchCred (fun d => O d 0) c : sProp 𝕄)
    = bigSep Finset.univ fun op : Op => cred (tallyAt (kcell c (op.key (op.src c))) op.lvl op.amt) := by
  have h : (fun d => O d 0) = fun d => ∑ op ∈ (Finset.univ : Finset Op), tallyAt (op.cell d) op.lvl op.amt := by
    funext d; unfold O; rw [show pending 0 = Finset.univ from Finset.eq_univ_iff_forall.mpr fun op => mem_pending.mpr (Nat.zero_le _)]
  rw [h, Pipeline.launchCred_sum Finset.univ (fun (op : Op) d => tallyAt (op.cell d) op.lvl op.amt) c]
  refine bigSep_congr fun op _ => ?_
  refine Pipeline.launchCred_of_sum (fun d => tallyAt (op.cell d) op.lvl op.amt) (fun d => tallyAt (kcell d (op.key (op.src d))) op.lvl op.amt) ?_ ?_ c
  · refine Fintype.sum_equiv ⟨op.tgt, op.src, op.src_tgt, op.tgt_src⟩ _ _ fun d => ?_
    show tallyAt (op.cell d) op.lvl op.amt = tallyAt (kcell (op.tgt d) (op.key (op.src (op.tgt d)))) op.lvl op.amt
    rw [op.src_tgt]
  · intro d g hg
    by_contra hne
    exact hg (tallyAt_ne_cell (fun h => hne (by rw [h])) _ _)

/-! ## Dealing out -/

/-- Two positions that stay unused. -/
def idle (c : Dev nD) : sProp 𝕄 := iprop(atPos ER (kcell c (.asend 0)) 0 ∅ 0 ∗ atPos ER (kcell c (.arecv c)) 0 ∅ 0)

omit [FloatOps F] in
/-- What can be copied is at hand for every one of the parts. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop((bigSep S fun _ => R) ∗ bigSep S Φ) := sep_mono_left (BI.bigSep_of_persistent S R)
  rw [← bigSep_sep'] at h1
  exact h1.trans (bigSep_mono h)

/-- The start of a chain. -/
theorem chain_zero (c : Dev nD) (k : Fin 4 → Key) :
    iprop(recs m K ∗ bigSep Finset.univ fun i : Fin 4 => (atPos ER (kcell c (k i)) 0 ∅ 0 : sProp 𝕄)) ⊢ chain (F := F) (fun i => kcell c (k i)) 0 := by
  unfold chain
  refine bigSep_beside (R := recs m K) fun i _ => ?_
  rw [show (0 + 3 - i.val) / 4 = 0 by revert i; decide]
  iintro ⟨#HR, H⟩
  isplitl [H]; · iexact H
  iapply (recs_reached m K c (k i)); iexact HR

omit [FloatOps F] in
theorem fin_ico (n : ℕ) (D : Fin n → sProp 𝕄) (Ψ : ℕ → sProp 𝕄) (h : ∀ t (ht : t < n), Ψ t = D ⟨t, ht⟩) : bigSep Finset.univ D ⊢ bigSep (Finset.Ico 0 n) Ψ := by
  rw [Nat.Ico_zero_eq_range]; exact Entails.of_eq (Idealize.ShloMosaic.Ring.bigSep_fin_eq_range n D Ψ h)

/-- A direction's part. -/
theorem deal_dir (c : Dev nD) (b : Bool) :
    iprop(recs m K ∗ (∃ X, owns (Val := Elt F) (c : Thread nD τ) (comm b) fullShare X) ∗ dirKeys (fun k => atPos ER (kcell c k) 0 ∅ 0) b
      ∗ dirOps (fun op => cred (tallyAt (kcell c (op.key (op.src c))) op.lvl op.amt)) b) ⊢ fresh (F := F) c b := by
  unfold dirKeys dirOps fresh arrivals over departures credits
  iintro ⟨#HR, Hx, ⟨Hc, ⟨Hr0, Hr1⟩, Hs0, Hs1⟩, ⟨Hh0, Hh1⟩, Hcr⟩
  isplitl [Hx]; · iexact Hx
  isplitl [Hr0 Hh0]
  · isplitl [Hr0]
    · iapply (chain_zero m K c fun i => .recv b (sl (i.val + 1)) 0); isplitr; · iexact HR
      iexact Hr0
    iapply (fin_ico 7 (fun s => cred (tallyAt (kcell c ((Op.hop b s 0).key ((Op.hop b s 0).src c))) (Op.hop b s 0).lvl (Op.hop b s 0).amt)) _ fun t ht => rfl); iexact Hh0
  isplitl [Hr1 Hh1]
  · isplitl [Hr1]
    · iapply (chain_zero m K c fun i => .recv b (sl (i.val + 1)) 1); isplitr; · iexact HR
      iexact Hr1
    iapply (fin_ico 7 (fun s => cred (tallyAt (kcell c ((Op.hop b s 1).key ((Op.hop b s 1).src c))) (Op.hop b s 1).lvl (Op.hop b s 1).amt)) _ fun t ht => rfl); iexact Hh1
  isplitl [Hs0 Hs1]
  · isplitl [Hs0]
    · iapply (chain_zero m K c fun i => .send b i 0); isplitr; · iexact HR
      iexact Hs0
    iapply (chain_zero m K c fun i => .send b i 1); isplitr; · iexact HR
    iexact Hs1
  rw [if_pos (by decide : 0 < 6)]
  isplitl [Hc]; · iexists ∅; iexact Hc
  iapply (fin_ico 6 (fun s => cred (tallyAt (kcell c ((Op.crd b s).key ((Op.crd b s).src c))) (Op.crd b s).lvl (Op.crd b s).amt)) _ fun t ht => rfl); iexact Hcr

/-- The mirror image of the distances. -/
def flip7 : Fin 7 ≃ Fin 7 := ⟨Fin.rev, Fin.rev, Fin.rev_rev, Fin.rev_rev⟩

/-- Everything a device starts with, dealt out. -/
theorem deal (c : Dev nD) :
    iprop(recs m K ∗ (∃ X, owns (Val := Elt F) (c : Thread nD τ) (comm false) fullShare X) ∗ (∃ X, owns (Val := Elt F) (c : Thread nD τ) (comm true) fullShare X)
      ∗ (bigSep Finset.univ fun k : Key => atPos ER (kcell c k) 0 ∅ 0) ∗ Pipeline.launchCred (fun d => O d 0) c)
      ⊢ iprop(fresh (F := F) c false ∗ fresh (F := F) c true ∗ cred (tallyAt (kcell c .bar) 1 1) ∗ cred (tallyAt (kcell c .bar) 1 1)
        ∗ atPos ER (kcell c .bar) 0 ∅ 0 ∗ shareAt (F := F) c ∗ idle (F := F) c) := by
  rw [key_split c, launch_creds]
  have hamx : (bigSep Finset.univ fun j : Fin 7 => (cred (tallyAt (kcell c ((Op.amx j).key ((Op.amx j).src c))) (Op.amx j).lvl (Op.amx j).amt) : sProp 𝕄))
      = bigSep Finset.univ fun j : Fin 7 => cred (tallyAt (kcell c (.arecv (peer j c))) 100 NA) := by
    rw [bigSep_univ_equiv flip7]
    refine bigSep_congr fun j _ => ?_
    show cred (tallyAt (kcell c (.arecv (peer (Fin.rev (Fin.rev j)) c))) 100 NA) = _
    rw [Fin.rev_rev]
  iintro ⟨#HR, Hf, Ht, ⟨Hb, Hkf, Hkt, ⟨Hs0, Hs⟩, Hr0, Hr⟩, Hcr⟩
  ihave Hcr := (op_split (F := F) _) $$ Hcr
  rw [hamx]
  icases Hcr with ⟨⟨Hb0, Hb1⟩, Hof, Hot, Ha⟩
  isplitl [Hf Hkf Hof]
  · iapply (deal_dir m K c false); iframe; iexact HR
  isplitl [Ht Hkt Hot]
  · iapply (deal_dir m K c true); iframe; iexact HR
  isplitl [Hb0]; · iexact Hb0
  isplitl [Hb1]; · iexact Hb1
  isplitl [Hb]; · iexact Hb
  unfold shareAt idle
  isplitl [Hs Hr Ha]
  · rw [bigSep_sep']; iframe
  iframe

/-! ## Gathering in -/

/-- The rounds each semaphore goes through. -/
def endR (c : Dev nD) : Key → ℕ
  | .bar => 1
  | .cred _ => 1
  | .send _ s _ => (10 - s.val) / 4
  | .recv _ s _ => (10 - (s.val + 3) % 4) / 4
  | .asend j => if j = 0 then 0 else 1
  | .arecv i => if i = c then 0 else 1

theorem no_more (c : Dev nD) (k : Key) (r : ℕ) (h : endR c k ≤ r) : dutiesK c k r = ∅ := by
  cases k with
  | bar => exact if_neg (Nat.pos_iff_ne_zero.mp h)
  | cred b => exact if_neg (Nat.pos_iff_ne_zero.mp h)
  | send b s u =>
    refine if_neg ?_
    have h' : (10 - s.val) / 4 ≤ r := h
    omega
  | recv b s u =>
    refine if_neg ?_
    have h' : (10 - (s.val + 3) % 4) / 4 ≤ r := h
    omega
  | asend j =>
    refine if_neg fun hh => ?_
    have h' : (if j = 0 then 0 else 1) ≤ r := h
    rw [if_neg hh.2] at h'; omega
  | arecv i =>
    refine if_neg fun hh => ?_
    have h' : (if i = c then 0 else 1) ≤ r := h
    rw [if_neg hh.2] at h'; omega

/-- The end of a chain. -/
theorem chain_end (c : Dev nD) (k : Fin 4 → Key) (h : ∀ i, endR c (k i) = (7 + 3 - i.val) / 4) :
    chain (F := F) (fun i => kcell c (k i)) 7 ⊢ (bigSep Finset.univ fun i : Fin 4 => (atPos ER (kcell c (k i)) (endR c (k i)) ∅ 0 : sProp 𝕄)) := by
  unfold chain
  refine bigSep_mono fun i _ => ?_
  rw [h]
  show iprop(atPos ER (kcell c (k i)) ((7 + 3 - i.val) / 4) ∅ 0 ∗ reached ER (kcell c (k i)) ((7 + 3 - i.val) / 4)) ⊢ atPos ER (kcell c (k i)) ((7 + 3 - i.val) / 4) ∅ 0
  iintro ⟨H, -⟩; iexact H

theorem gather_dir (c : Dev nD) (b : Bool) : drained (F := F) c b ⊢ dirKeys (fun k => atPos ER (kcell c k) (endR c k) ∅ 0) b := by
  unfold dirKeys drained arrivals over departures credits
  rw [if_neg (by decide : ¬ 6 < 6)]
  iintro ⟨⟨Hr0, -⟩, ⟨Hr1, -⟩, ⟨Hs0, Hs1⟩, Hc, -⟩
  isplitl [Hc]; · iexact Hc
  have he (i : Fin 4) (u : Fin 2) : endR c (.recv b (sl (i.val + 1)) u) = (7 + 3 - i.val) / 4 := by
    show (10 - ((sl (i.val + 1)).val + 3) % 4) / 4 = _; revert i; decide
  isplitl [Hr0 Hr1]
  · isplitl [Hr0]
    · iapply (chain_end c (fun i => .recv b (sl (i.val + 1)) 0) fun i => he i 0); iexact Hr0
    iapply (chain_end c (fun i => .recv b (sl (i.val + 1)) 1) fun i => he i 1); iexact Hr1
  isplitl [Hs0]
  · iapply (chain_end c (fun i => .send b i 0) fun i => rfl); iexact Hs0
  iapply (chain_end c (fun i => .send b i 1) fun i => rfl); iexact Hs1

/-- The positions at the end. -/
theorem gather (c : Dev nD) :
    iprop(atPos ER (kcell c .bar) 1 ∅ 0 ∗ drained (F := F) c false ∗ drained (F := F) c true ∗ sharedAt (F := F) c ∗ idle (F := F) c)
      ⊢ (bigSep Finset.univ fun k : Key => atPos ER (kcell c k) (endR c k) ∅ 0) := by
  rw [key_split c]
  have h1 : (bigSep Finset.univ fun j : Fin 7 => (atPos ER (kcell c (.asend j.succ)) (endR c (.asend j.succ)) ∅ 0 : sProp 𝕄))
      = bigSep Finset.univ fun j : Fin 7 => atPos ER (kcell c (.asend j.succ)) 1 ∅ 0 :=
    bigSep_congr fun j _ => congrArg (fun r => (atPos ER (kcell c (.asend j.succ)) r ∅ 0 : sProp 𝕄)) (show endR c (.asend j.succ) = 1 from (if_neg (Fin.succ_ne_zero j) : (if j.succ = (0 : Fin 8) then 0 else 1) = 1))
  have h2 : (bigSep Finset.univ fun j : Fin 7 => (atPos ER (kcell c (.arecv (peer j c))) (endR c (.arecv (peer j c))) ∅ 0 : sProp 𝕄))
      = bigSep Finset.univ fun j : Fin 7 => atPos ER (kcell c (.arecv (peer j c))) 1 ∅ 0 :=
    bigSep_congr fun j _ => congrArg (fun r => (atPos ER (kcell c (.arecv (peer j c))) r ∅ 0 : sProp 𝕄)) (show endR c (.arecv (peer j c)) = 1 from (if_neg (peer_ne j c) : (if peer j c = c then 0 else 1) = 1))
  have h3 : endR c (.arecv c) = 0 := if_pos rfl
  rw [h1, h2, h3, show endR c (.asend 0) = 0 from rfl, show endR c .bar = 1 from rfl]
  unfold sharedAt idle
  iintro ⟨Hb, Hf, Ht, ⟨Hr, Hs⟩, Hs0, Hr0⟩
  isplitl [Hb]; · iexact Hb
  isplitl [Hf]; · iapply (gather_dir c false); iexact Hf
  isplitl [Ht]; · iapply (gather_dir c true); iexact Ht
  isplitl [Hs Hs0]
  · isplitl [Hs0]; · iexact Hs0
    iexact Hs
  iframe

/-- Every semaphore is closed, at zero. -/
theorem close_all (c : Dev nD) :
    iprop(recs m K ∗ bigSep Finset.univ fun k : Key => (atPos ER (kcell c k) (endR c k) ∅ 0 : sProp 𝕄))
      ⊢ |={Set.univ}=> bigSep Finset.univ fun k : Key => semVal (kcell c k) 0 := by
  refine (show iprop(recs m K ∗ bigSep Finset.univ fun k : Key => (atPos ER (kcell c k) (endR c k) ∅ 0 : sProp 𝕄))
    ⊢ bigSep Finset.univ fun k : Key => iprop(|={Set.univ}=> semVal (kcell c k) 0) from bigSep_beside (R := recs m K) fun k _ => ?_).trans (bigSep_fupd _ _)
  iintro ⟨#HR, H⟩
  iapply (Rounds.cell_close ER (Rd m) (Set.mem_univ (K (c, k))) (fun h => h) (R := endR c k) fun r hr => (Rd_duties m c k r).trans (no_more c k r hr))
  isplitr; · iapply (recs_inv m K c k); iexact HR
  iexact H

end Cert.KernelIdeal.Ring

end
-- ==== Proof.BodyEq.lean ====
/- The printed body is the program over symbolic steps. -/
module

public import proofs.«01_k».proof.Proof.Program

@[expose] public section

noncomputable section

namespace Cert.KernelIdeal.Ring

open Idealize.ShloMosaic Idealize.SL.Sem Cert.KernelIdeal Cert.KernelIdeal.Gen

variable {F : FTy → Type} [FloatOps F]

set_option maxRecDepth 100000 in
set_option maxHeartbeats 4000000 in
/-- The printed body, its devices in closed form, is the program step for step. -/
theorem cc0_body_eq : cc0_body (F := F) xs (hstage0_0 0) ws (hstage0_1 0) os (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 = body (F := F) := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel,
    semSignalWord, semWaitWord, Prog.lift, Prog.bind_op, Prog.bind_ret, Prog.pure_eq_ret]
  rfl

end Cert.KernelIdeal.Ring

end
-- ==== Proof.Launch.lean ====
/- The launch: what each device starts from, the library's obligations for the kernel's region, and the run. -/
module

public import Idealize.ShloMosaic.Lib.Pipeline.Kit
public import Idealize.ShloMosaic.Lib.Pipeline.CollectiveSegs
public import Idealize.ShloMosaic.Adequacy
public import Idealize.ShloMosaic.Init
public import proofs.«01_k».proof.Proof.Deal
public import proofs.«01_k».proof.Proof.BodyEq
public import proofs.«01_k».proof.Proof.Gen.KernelIdeal.Launch
public import proofs.«01_k».proof.Proof.Gen.KernelIdeal.Points

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

open Idealize.ShloMosaic.Pipeline (Dat BodyObligation)

variable (ρ : Dev nD → PrngReg)

/-- The memory at launch. -/
def s₀ : MemSt nD τ sig (Elt F) := ⟨m, fun _ => 0, ρ⟩

/-! ## Semaphores -/

/-- The semaphores that live as long as the kernel. -/
abbrev Own : Type := {k : Key // k ≠ .bar}
abbrev osem (k : Own) : SemLoc sig := kloc k.1

theorem stage_no_key (w : Fin 3) (s : Fin (spec0 w).nbuf) : keyOf (SemLoc.dma ((spec0 w).sem s)) = none := by
  revert s; revert w; decide

theorem key_scoped (k : Key) (h : k ≠ .bar) : (kloc k).isScoped .tc = true := by
  cases k with
  | bar => exact absurd rfl h
  | cred b => revert b; decide
  | send b s u => revert b s u; decide
  | recv b s u => revert b s u; decide
  | asend j => revert j; decide
  | arecv i => revert i; decide

theorem ownSemFacts : Pipeline.OwnSemFacts cfg0.spec osem :=
  ⟨fun k => key_scoped k.1 k.2, fun a b h => Subtype.ext (kloc_inj h),
    fun k w s h => by
      have h1 := congrArg keyOf h
      rw [keyOf_kloc] at h1
      exact absurd (h1.trans (stage_no_key w s)) (by simp)⟩

omit [FloatOps F] in
theorem unscoped_eq (c : Dev nD) : (unscopedSems0 c : sProp 𝕄) = semVal (kcell c .bar) 0 := by
  unfold unscopedSems0; rw [bigSep_eq_bigSepL_of_eq [kloc .bar] (by decide) (by decide)]; rfl

omit [FloatOps F] in
/-- Together they are the named ones. -/
theorem sems_eq (c : Dev nD) : (bigSep Finset.univ fun k : Key => (semVal (kcell c k) 0 : sProp 𝕄))
    = iprop(unscopedSems0 c ∗ Pipeline.ownSems0 (Ix := ℕ) (Name := ℕ) (U := UU) (Lvl := ℕ) (Val := Elt F) (τ := τ) osem c) := by
  rw [bigSep_univ_at _ Key.bar, unscoped_eq, ← bigSep_subtype_ne Key.bar (fun k : Key => (semVal (kcell c k) 0 : sProp 𝕄))]; rfl

/-! ## Tokens -/

/-- What a device holds tokens of: its payments, the departures of its halves and of its largest entry. -/
abbrev Tok : Type := Op ⊕ (Bool × Fin 7 × Fin 2) ⊕ Fin 7

/-- The semaphore, round and name of a token. -/
def tokK : Dev nD × Tok → Dev nD × Key × ℕ × ℕ
  | (d, .inl op) => (op.tgt d, op.key d, op.rnd, op.dty)
  | (d, .inr (.inl (b, s, u))) => (d, .send b (sl s.val) u, s.val / 4, 0)
  | (d, .inr (.inr j)) => (d, .asend j.succ, 0, 0)

abbrev m7 (n : ℕ) : Fin 7 := ⟨n % 7, Nat.mod_lt _ (by decide)⟩

/-- The token of a semaphore's round and name. -/
def untok : Dev nD × Key × ℕ × ℕ → Dev nD × Tok
  | (c, .bar, _, t) => (nb (t != 0) c, .inl (.bar (t != 0)))
  | (c, .cred b, _, t) => (nb b c, .inl (.crd b ⟨t % 6, Nat.mod_lt _ (by decide)⟩))
  | (c, .send b s u, r, _) => (c, .inr (.inl (b, m7 (4 * r + s.val), u)))
  | (c, .recv b s u, r, _) => (nb (!b) c, .inl (.hop b (m7 (4 * r + (s.val + 3) % 4)) u))
  | (c, .asend j, _, _) => (c, .inr (.inr (m7 (j.val + 6))))
  | (c, .arecv d, _, _) => (d, .inl (.amx (m7 ((c.val + 15 - d.val) % 8))))

theorem untok_tokK : ∀ x, untok (tokK x) = x
  | (d, .inl (.bar b)) => by revert d b; decide
  | (d, .inl (.crd b s)) => by revert d b s; decide
  | (d, .inl (.hop b s u)) => by revert d b s u; decide
  | (d, .inl (.amx j)) => by revert d j; decide
  | (d, .inr (.inl (b, s, u))) => by revert d b s u; decide
  | (d, .inr (.inr j)) => by revert d j; decide

def tokOf (x : Dev nD × Tok) : GSem nD τ sig × ℕ × ℕ := (kcell (tokK x).1 (tokK x).2.1, (tokK x).2.2.1, (tokK x).2.2.2)

theorem tokOf_inj : Function.Injective tokOf := by
  intro x y h
  have h1 := kcell_inj (congrArg Prod.fst h)
  have h2 : (tokK x).2.2 = (tokK y).2.2 := Prod.ext (congrArg (fun t => t.2.1) h) (congrArg (fun t => t.2.2) h)
  rw [← untok_tokK x, ← untok_tokK y]
  exact congrArg untok (Prod.ext h1.1 (Prod.ext h1.2 h2))

theorem kcell_injective : Function.Injective fun x : Dev nD × Key => kcell x.1 x.2 := fun x y h => Prod.ext (kcell_inj h).1 (kcell_inj h).2

def ringCells : Finset (GSem nD τ sig) := Finset.univ.map ⟨fun x : Dev nD × Key => kcell x.1 x.2, kcell_injective⟩
def ringToks : Finset (GSem nD τ sig × ℕ × ℕ) := Finset.univ.map ⟨tokOf, tokOf_inj⟩

def u₀ : UU := (initOf (Pipeline.cells cfgs cellOf_inj) (Pipeline.launchToks cfgs cellOf_inj), initOf ringCells ringToks)

omit [FloatOps F] in
/-- A device's tokens, with each payment those it uses up. -/
theorem toks_eq (d : Dev nD) : (bigSep Finset.univ fun x : Tok => (dutyTok ER (tokOf (d, x)).1 (tokOf (d, x)).2.1 (tokOf (d, x)).2.2 : sProp 𝕄))
    ⊢ bigSep Finset.univ (tok (F := F) d) := by
  have h2 : (bigSep Finset.univ fun op : Op => (match op with
      | .hop b s u => dutyTok ER (kcell d (.send b (sl s.val) u)) (s.val / 4) 0
      | .amx j => dutyTok ER (kcell d (.asend j.succ)) 0 0
      | _ => iprop(emp) : sProp 𝕄))
      = iprop((bigSep Finset.univ fun x : Bool × Fin 7 × Fin 2 => dutyTok ER (kcell d (.send x.1 (sl x.2.1.val) x.2.2)) (x.2.1.val / 4) 0)
          ∗ bigSep Finset.univ fun j : Fin 7 => dutyTok ER (kcell d (.asend j.succ)) 0 0) := by
    rw [bigSep_univ_equiv Op.equiv.symm, bigSep_univ_sum, bigSep_univ_sum, bigSep_univ_sum]
    have e1 : (bigSep Finset.univ fun b : Bool => (iprop(emp) : sProp 𝕄)) = iprop(emp) := bigSep_emp_const _
    have e2 : (bigSep Finset.univ fun b : Bool × Fin 6 => (iprop(emp) : sProp 𝕄)) = iprop(emp) := bigSep_emp_const _
    refine Idealize.SL.BI.Entails.antisymm ?_ ?_
    · show iprop(((bigSep Finset.univ fun b : Bool => (iprop(emp) : sProp 𝕄))
          ∗ bigSep Finset.univ fun x : Bool × Fin 7 × Fin 2 => dutyTok ER (kcell d (.send x.1 (sl x.2.1.val) x.2.2)) (x.2.1.val / 4) 0)
        ∗ (bigSep Finset.univ fun b : Bool × Fin 6 => (iprop(emp) : sProp 𝕄)) ∗ bigSep Finset.univ fun j : Fin 7 => dutyTok ER (kcell d (.asend j.succ)) 0 0) ⊢ _
      iintro ⟨⟨-, H1⟩, -, H2⟩
      iframe
    · show _ ⊢ iprop(((bigSep Finset.univ fun b : Bool => (iprop(emp) : sProp 𝕄))
          ∗ bigSep Finset.univ fun x : Bool × Fin 7 × Fin 2 => dutyTok ER (kcell d (.send x.1 (sl x.2.1.val) x.2.2)) (x.2.1.val / 4) 0)
        ∗ (bigSep Finset.univ fun b : Bool × Fin 6 => (iprop(emp) : sProp 𝕄)) ∗ bigSep Finset.univ fun j : Fin 7 => dutyTok ER (kcell d (.asend j.succ)) 0 0)
      rw [e1, e2]
      iintro ⟨H1, H2⟩
      iframe
  have hs : bigSep Finset.univ (tok (F := F) d) = iprop((bigSep Finset.univ fun op : Op => dutyTok ER (op.cell d) op.rnd op.dty)
      ∗ bigSep Finset.univ fun op : Op => (match op with
        | .hop b s u => dutyTok ER (kcell d (.send b (sl s.val) u)) (s.val / 4) 0
        | .amx j => dutyTok ER (kcell d (.asend j.succ)) 0 0
        | _ => iprop(emp))) := by rw [← bigSep_sep']; rfl
  rw [hs, h2, bigSep_univ_sum, bigSep_univ_sum]
  exact Entails.of_eq rfl

/-! ## Dealing the ghost state -/

/-- What the launch deals a device, -/
def G (c : Dev nD) : sProp 𝕄 :=
  iprop((bigSep Finset.univ fun k : Key => roundState ER (Rd m) (kcell c k) 0)
    ∗ (bigSep Finset.univ fun k : Key => iprop(atPos ER (kcell c k) 0 ∅ 0 ∗ reached ER (kcell c k) 0)) ∗ bigSep Finset.univ (tok (F := F) c))

/-- the records every device shares, -/
def shared (K : Dev nD × Key → ℕ) : sProp 𝕄 :=
  iprop((bigSep Finset.univ fun ck : Dev nD × Key => cellInv ER (Rd m) (K ck) (kcell ck.1 ck.2))
    ∗ bigSep Finset.univ fun ck : Dev nD × Key => reached ER (kcell ck.1 ck.2) 0)
instance shared_persistent (K : Dev nD × Key → ℕ) : BI.Persistent (shared m K) := by unfold shared; infer_instance

/-- and what a device has once every semaphore has its invariant. -/
def G' (c : Dev nD) : sProp 𝕄 :=
  iprop(∃ K, shared m K ∗ (bigSep Finset.univ fun k : Key => atPos ER (kcell c k) 0 ∅ 0) ∗ bigSep Finset.univ (tok (F := F) c))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (kcell c k) := by
    unfold ringCells; rw [bigSep_map, bigSep_univ_prod]; rfl
  have hT : bigSep ringToks (fun x => (dutyTok ER x.1 x.2.1 x.2.2 : sProp 𝕄)) ⊢ bigSep Finset.univ fun c : Dev nD => bigSep Finset.univ (tok (F := F) c) := by
    unfold ringToks; rw [bigSep_map, bigSep_univ_prod]
    exact bigSep_mono fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (Rd m) κ (kcell c k)))
          ∗ (bigSep Finset.univ fun k : Key => iprop(atPos ER (kcell c k) 0 ∅ 0 ∗ reached ER (kcell c k) 0)) ∗ bigSep Finset.univ (tok (F := F) c)) := by
  have halloc : iprop((bigSep Finset.univ fun k : Key => (semVal (kcell c k) 0 : sProp 𝕄)) ∗ bigSep Finset.univ fun k : Key => roundState ER (Rd m) (kcell c k) 0)
      ⊢ |={Set.univ}=> bigSep Finset.univ fun k : Key => iprop(∃ κ : ℕ, cellInv ER (Rd m) κ (kcell c k)) := by
    rw [← bigSep_sep']
    exact (bigSep_mono fun k _ => (Rounds.body_intro ER (Rd m) (kcell c k)).trans inv_alloc).trans (bigSep_fupd _ _)
  unfold G
  iintro ⟨Hos, Hus, Hst, Hat, Htok⟩
  imod halloc $$ [Hos Hus Hst] with Hinv
  · isplitr [Hst]
    · rw [sems_eq]; isplitl [Hus] <;> iassumption
    iexact Hst
  imodintro
  isplitl [Hinv]; · iexact Hinv
  isplitl [Hat]; · iexact Hat
  iexact Htok

theorem regroup :
    (bigSep Finset.univ fun c : Dev nD => iprop((bigSep Finset.univ fun k : Key => iprop(∃ κ : ℕ, cellInv ER (Rd m) κ (kcell c k)))
          ∗ (bigSep Finset.univ fun k : Key => iprop(atPos ER (kcell c k) 0 ∅ 0 ∗ reached ER (kcell c k) 0)) ∗ bigSep Finset.univ (tok (F := F) c)) : sProp 𝕄)
      ⊢ bigSep Finset.univ (G' m) := by
  rw [bigSep_sep', bigSep_sep', ← bigSep_univ_prod (fun ck : Dev nD × Key => iprop(∃ κ : ℕ, cellInv ER (Rd m) κ (kcell ck.1 ck.2))),
    bigSep_congr (s := Finset.univ) (fun (c : Dev nD) _ => bigSep_sep' Finset.univ (fun k : Key => (atPos ER (kcell c k) 0 ∅ 0 : sProp 𝕄)) (fun k => reached ER (kcell c k) 0)),
    bigSep_sep', ← bigSep_univ_prod (fun ck : Dev nD × Key => (reached ER (kcell ck.1 ck.2) 0 : sProp 𝕄))]
  iintro ⟨HI, ⟨Hat, #HR⟩, Htok⟩
  ihave HK := (BI.bigSep_exists_pi Finset.univ (fun (ck : Dev nD × Key) (κ : ℕ) => (cellInv ER (Rd m) κ (kcell ck.1 ck.2) : sProp 𝕄))) $$ HI
  icases HK with ⟨%K, #HI⟩
  iapply (bigSep_beside (R := shared m K) (S := (Finset.univ : Finset (Dev nD)))
    (Φ := fun c => iprop((bigSep Finset.univ fun k : Key => atPos ER (kcell c k) 0 ∅ 0) ∗ bigSep Finset.univ (tok (F := F) c))) (Ψ := G' m) fun c _ => by
      unfold G'
      iintro ⟨#HS, H⟩
      iexists K
      isplitr; · iexact HS
      iexact H)
  isplitr
  · unfold shared; isplitl; · iexact HI
    iexact HR
  · rw [bigSep_sep']
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The kernel's region -/

/-- What a device's body starts from, -/
def start (c : Dev nD) : sProp 𝕄 :=
  iprop(∃ K, recs m K ∗ (bigSep Finset.univ fun k : Key => atPos ER (kcell c k) 0 ∅ 0) ∗ bigSep Finset.univ (tok (F := F) c) ∗ Pipeline.launchCred (fun d => O d 0) c)

/-- its own buffers, -/
def bufs (c : Dev nD) : sProp 𝕄 :=
  iprop((∃ X, owns (Val := Elt F) (c : Thread nD τ) (comm false) fullShare X) ∗ (∃ X, owns (Val := Elt F) (c : Thread nD τ) (comm true) fullShare X)
    ∗ (∃ X, owns (Val := Elt F) (c : Thread nD τ) amaxSrc fullShare X) ∗ (∃ X, owns (Val := Elt F) (c : Thread nD τ) amaxBuf fullShare X))

omit [FloatOps F] in
theorem bufs_eq (c : Dev nD) : bufs (F := F) c = Pipeline.scopedRest cfg0.spec c := by
  rw [scopedRest0_eq]; unfold bufs comm amaxSrc amaxBuf; simp only [owns_whole]; rfl

/-- What a buffer of the core holds. -/
def stg (c : Dev nD) (b : Ref sig .tc) (X : Buf (Elt F) ((c : Thread nD τ).loc b)) : sProp 𝕄 :=
  iprop(∃ f, ⌜f = X⌝ ∗ (((c : Thread nD τ).loc b) ↦{fullShare} f))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outV m c
  Φ t := match t with
    | ⟨0, _⟩ => iprop(start m c ∗ bufs (F := F) c)
    | ⟨_ + 1, _⟩ => iprop((bigSep Finset.univ fun k : Key => semVal (kcell c k) 0) ∗ bufs (F := F) c)
  q _ := fullShare
  owed t := match t with
    | ⟨0, _⟩ => O c 0
    | ⟨_ + 1, _⟩ => 0

def bodyPre (c : Dev nD) : sProp 𝕄 :=
  iprop((start m c ∗ bufs (F := F) c) ∗ (dats m ρ 0 c).owesAt 0 (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(((bigSep Finset.univ fun k : Key => semVal (kcell c k) 0) ∗ bufs (F := F) c) ∗ (dats m ρ 0 c).owesAt 0 (t0_0 : Fin cfg0.N).succ
    ∗ stg c cc0_stg0_0 (xstg m c) ∗ stg c cc0_stg1_0 (wstg m c) ∗ stg c cc0_stg2_0 (outV m c))

/-- The body, from what the pipeline hands it to what the pipeline takes back. -/
theorem sound_body (c : Dev nD) : bodyPre m ρ c ⊢ WP c body (fun _ => bodyPost m ρ c) := by
  unfold bodyPre start body stg
  rw [WP, wp_deviceId]
  iintro ⟨⟨⟨%K, #HR, Hat, Htok, Hcr⟩, Hbufs⟩, Ho, ⟨%d0, %g0, %hg0, Hx⟩, ⟨%d1, %g1, %hg1, Hw⟩, ⟨%d2, %g2, -, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold bufs
  icases Hbufs with ⟨Hf, Ht, Ha, Hb⟩
  ihave Hd := (deal m K c) $$ [Hf Ht Hat Hcr]
  · iframe; iexact HR
  icases Hd with ⟨Hf, Ht, Hc1, Hc2, Hp, Hsh, Hi⟩
  unfold Dat.owesAt Pipeline.owesWithin
  icases Ho with ⟨%W, -, HO⟩
  iapply (wp_bodyOn m K c) $$ [Hf Ht Ha Hb Hc1 Hc2 Hp Hsh HO Htok Hx Hw Hout]
  · isplitr; · iexact HR
    isplitl [HO Htok]
    · unfold debt
      rw [show pending 0 = Finset.univ from Finset.eq_univ_iff_forall.mpr fun op => mem_pending.mpr (Nat.zero_le _)]
      isplitl [HO]; · iexists W; iexact HO
      iexact Htok
    isplitl [Hx Hw]
    · unfold staged; isplitl [Hx]; · iexact Hx
      iexact Hw
    isplitl [Hout]
    · iexists g2; unfold os; rw [owns_whole]; iexact Hout
    iframe
  iintro ⟨Hd, Hs, Hout, Hfin⟩
  unfold finished
  icases Hfin with ⟨Hf, Ht, Ha, Hb, Hp, Hdf, Hdt, Hsh⟩
  ihave Hat := (gather (F := F) c) $$ [Hp Hdf Hdt Hsh Hi]
  · iframe
  imod (close_all m K c) $$ [Hat] with Hz
  · isplitr; · iexact HR
    iexact Hat
  imodintro
  unfold bodyPost bufs debt staged stg
  icases Hd with ⟨⟨%W', HO⟩, -⟩
  icases Hs with ⟨Hx, Hw⟩
  isplitl [Hz Hf Ht Ha Hb]; · iframe
  isplitl [HO]
  · unfold Dat.owesAt Pipeline.owesWithin
    rw [O_end]
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists (outV m c); isplitr; · (ipureintro; rfl)
  iapply (show owns (c : Thread nD τ) os fullShare (outV m c) ⊢ (((c : Thread nD τ).loc cc0_stg2_0) ↦{fullShare} outV m c : sProp 𝕄) from Entails.of_eq (owns_whole _ _ _ _))
  iexact Hout

set_option maxRecDepth 100000 in
/-- The program the region runs is the body. -/
theorem region_body : (defs₀ (F := F)) .tc cfg0.body (cfg0.bodyArgs t0_0 (cfg0.slots t0_0)) = body := cc0_body_eq

set_option maxRecDepth 16000 in
/-- The library's obligation for the body. -/
theorem body_obligation (c : Dev nD) : BodyObligation (dats (F := F) m ρ 0 c) (defs₀ (F := F)) 𝒱₀ 0 Set.univ := fun t => by
  rw [show t = (t0_0 : Fin cfg0.N) from fin_N0 t]
  rw [bigSep_W0, bigSep_W0, region_body]
  simp only [owns_whole_eq]
  exact sound_body m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  unfold G' shared start recs
  iintro ⟨-, #Hlev, Hcr, -, ⟨%K, ⟨#HI, #HR⟩, Hat, Htok⟩⟩
  imodintro
  isplitl
  · iexists K
    isplitr
    · isplitr; · iexact HI
      isplitr; · iexact HR
      iexact Hlev
    isplitl [Hat]; · iexact Hat
    isplitl [Htok]; · iexact Htok
    iexact Hcr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs (F := F) c) from rfl, bufs_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop((bigSep Finset.univ fun k : Key => semVal (kcell c k) 0) ∗ bufs (F := F) c) from rfl, bufs_eq, sems_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | t, ht⟩
    · refine mayWait c _ 0 0 (by decide) fun op _ => ?_
      rcases op with b | ⟨b, s, u⟩ | ⟨b, s⟩ | j <;> simp only [Op.lvl] <;> omega
    · show (levAts L lv : sProp 𝕄) ⊢ MayWait (c : Thread nD τ) _ 0 0
      rw [MayWait_zero]; iintro -; iempintro

/-! ## The run -/

/-- What an array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- From any memory with zero counters, for any float values, every weakly fair execution of the eight devices ends,
    every result array at the computed contents, the operands unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand after the run holds what it held. -/
theorem finalA_x (c : Dev nD) : finalA m ρ c (0 : Fin 3) = m ((c : Thread nD τ).loc main_arg0) := (dats (F := F) m ρ 0 c).arrAt_in (0 : Fin 3) rfl _
@[inherit_doc finalA_x] theorem finalA_w (c : Dev nD) : finalA m ρ c (1 : Fin 3) = m ((c : Thread nD τ).loc main_arg1) := (dats (F := F) m ρ 0 c).arrAt_in (1 : Fin 3) rfl _

end Cert.KernelIdeal.Ring

end
-- ==== Proof.Frames.lean ====
/- The frames of the kernel: over bits, and over the extended reals. -/
module

public import proofs.«01_k».proof.Proof.Launch
public import proofs.«01_k».proof.Defs
public import proofs.«01_k».proof.Proof.Gen.Kernel

@[expose] public section

noncomputable section

namespace Cert.KernelIdeal.Ring

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig ℕ (Elt F) ℕ UU ℕ
local notation "P" => Prog (TpuEff nD τ sig (Elt F) Λ₀ Proc.tc) PUnit

variable (m : (ℓ : Loc nD τ sig) → Buf (Elt F) ℓ) (K : Dev nD × Key → ℕ)

variable (ρ : Dev nD → PrngReg)

/-- The run with the values dropped: the operands are as before, every counter is zero. -/
theorem unchanged : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (finalA_x m ρ c), (h.1 c 1).trans (finalA_w m ρ c)⟩, h.2⟩) (run_main m ρ)

set_option maxRecDepth 100000 in
/-- The kernel as printed runs the same body. -/
theorem bodies_eq : Kernel.defs₀ (F := F) = defs₀ (F := F) := by
  refine congrArg Defs.onTc ?_
  funext l a
  match l, a with
  | 0, (t, s) => rfl

set_option maxRecDepth 100000 in
/-- And so has the same table of programs. -/
theorem tables_eq : Kernel.defs (F := F) = defs (F := F) := congrArg (Pipeline.defs (pcfgs (F := F))) bodies_eq

theorem frame_ideal : Cert.quiescent_KernelIdeal := fun m ρ _ => unchanged (F := Ideal) m ρ

set_option maxRecDepth 100000 in
theorem frame_kernel : Cert.quiescent_Kernel := fun m ρ _ => by
  have h := unchanged (F := Bits) m ρ
  rw [← tables_eq] at h
  exact (θ_run Cert.Kernel.defs _ _).mono (fun _ h => h) h

end Cert.KernelIdeal.Ring

end
-- ==== Proof.Quant.lean ====
/- The quantiser on one value, over the extended reals. -/
module

public import Idealize.ShloMosaic.PureOps.Ideal
public import proofs.«01_k».proof.Proof.Gen.KernelIdeal

@[expose] public section

noncomputable section

namespace Cert.KernelIdeal.Ring

open Idealize.ShloMosaic Idealize.SL.Sem Cert.KernelIdeal Cert.KernelIdeal.Gen
open Idealize.ShloMosaic.TcCoe
open scoped BigOperators

/-- The quantiser's largest value. -/
theorem word_448 : (FloatOps.ofBits (F := Ideal) .f32 0x43E00000#32 : EReal) = ((448 : ℝ) : EReal) := by
  show Ideal.ofBits .f32 0x43E00000#32 = _
  simp [Ideal.ofBits, Ideal.ieee, -EReal.coe_mul]; norm_num

theorem word_neg448 : (FloatOps.ofBits (F := Ideal) .f32 0xC3E00000#32 : EReal) = ((-448 : ℝ) : EReal) := by
  show Ideal.ofBits .f32 0xC3E00000#32 = _
  simp [Ideal.ofBits, Ideal.ieee, -EReal.coe_mul]; norm_num

theorem word_bot : (FloatOps.ofBits (F := Ideal) .f32 0xFF800000#32 : EReal) = ⊥ := by
  show Ideal.ofBits .f32 0xFF800000#32 = _
  simp [Ideal.ofBits, Ideal.ieee]

theorem word_zero : (FloatOps.ofBits (F := Ideal) .f32 0x00000000#32 : EReal) = 0 := by
  show Ideal.ofBits .f32 0x00000000#32 = _
  simp [Ideal.ofBits, Ideal.ieee]

/-- What the kernel makes of a value `y` where the largest magnitude is `a`: scaled up, scaled down. -/
def quantK (a y : EReal) : EReal := y * Ideal.div ((448 : ℝ) : EReal) a * Ideal.div a ((448 : ℝ) : EReal)

/-- What the reference makes of it: divided by the scale, clipped, multiplied by the scale. -/
def quantR (a y : EReal) : EReal :=
  min ((448 : ℝ) : EReal) (max ((-448 : ℝ) : EReal) (Ideal.div y (Ideal.div a ((448 : ℝ) : EReal)))) * Ideal.div a ((448 : ℝ) : EReal)

/-- Division by a real number off zero. -/
theorem div_real (x : EReal) {r : ℝ} (hr : r ≠ 0) : Ideal.div x (r : EReal) = x * ((r⁻¹ : ℝ) : EReal) := by
  have : (r : EReal) ≠ 0 := by exact_mod_cast hr
  rw [Ideal.div, if_neg this, EReal.coe_inv]

/-- The two agree on every value whose magnitude is at most `a`, at 0 and at infinity too. -/
theorem quant_eq (a y : EReal) (h : max y (-y) ≤ a) : quantK a y = quantR a y := by
  obtain ⟨h1, h2⟩ := max_le_iff.mp h
  unfold quantK quantR
  have h448 : (448 : ℝ) ≠ 0 := by norm_num
  induction a with
  | bot =>
    have e1 : y = ⊥ := le_bot_iff.mp h1
    subst e1
    simp at h2
  | top =>
    have e : Ideal.div (⊤ : EReal) ((448 : ℝ) : EReal) = ⊤ := by
      rw [div_real _ h448]
      exact EReal.top_mul_coe_of_pos (by norm_num)
    have e2 : ∀ z : EReal, Ideal.div z ⊤ = 0 := fun z => by
      rw [Ideal.div, if_neg (by simp), EReal.inv_top, mul_zero]
    rw [e, e2, e2, mul_zero, zero_mul]
    have : min ((448 : ℝ) : EReal) (max ((-448 : ℝ) : EReal) 0) = 0 := by
      rw [max_eq_right (by exact_mod_cast (by norm_num : (-448 : ℝ) ≤ 0)),
        min_eq_right (by exact_mod_cast (by norm_num : (0 : ℝ) ≤ 448))]
    rw [this, zero_mul]
  | coe r =>
    induction y with
    | bot => simp at h2
    | top => simp at h1
    | coe s =>
      have h1' : s ≤ r := by exact_mod_cast h1
      have h2' : -s ≤ r := by exact_mod_cast h2
      rw [div_real _ h448]
      rcases eq_or_ne r 0 with rfl | hr
      · have : s = 0 := le_antisymm h1' (by linarith)
        subst this
        simp
      · have hp : 0 < r := lt_of_le_of_ne (by linarith) (Ne.symm hr)
        rw [div_real _ hr, ← EReal.coe_mul r, div_real _ (mul_ne_zero hr (inv_ne_zero h448)), ← EReal.coe_mul s]
        have up : s * (r * 448⁻¹)⁻¹ ≤ 448 := by
          rw [mul_inv, inv_inv, ← mul_assoc, mul_comm, ← div_eq_mul_inv]
          have : s / r ≤ 1 := (div_le_one hp).mpr h1'
          linarith
        have lo : -448 ≤ s * (r * 448⁻¹)⁻¹ := by
          rw [mul_inv, inv_inv, ← mul_assoc, mul_comm, ← div_eq_mul_inv]
          have : -1 ≤ s / r := by rw [le_div_iff₀ hp]; linarith
          linarith
        rw [max_eq_right (by exact_mod_cast lo), min_eq_right (by exact_mod_cast up)]
        simp only [← EReal.coe_mul]
        congr 1
        field_simp

end Cert.KernelIdeal.Ring

end
-- ==== Proof.Maxima.lean ====
/- Maxima of magnitudes, each by the numbers that bound it. -/
module

public import Idealize.ShloMosaic.PureOps.Reduce
public import Idealize.ShloMosaic.PureOps.Ideal.Laws
public import proofs.«01_k».proof.Proof.Quant
public import proofs.«01_k».proof.Proof.Program

@[expose] public section

noncomputable section

namespace Cert.KernelIdeal.Ring

open Idealize.ShloMosaic Idealize.SL.Sem Cert.KernelIdeal Cert.KernelIdeal.Gen
open Idealize.ShloMosaic.TcCoe
open scoped BigOperators

/-- A maximum over all axes is at most `z` exactly where every entry is. -/
theorem maxall_le {s t : Shape} {axes : List (Fin s.rank)} (src : FVec Ideal s .f32) (h : s.Reduces axes t)
    (hφ : FKind.Formats .f32) (hacc : (0xFF800000#32 : BitVec 32) = FKind.maximumf.neutral .f32 hφ) (j : t.Idx) (hj : ∀ i : t.Idx, i = j) (z : EReal) :
    (multiReduction .maximumf axes t src 0xFF800000#32 h hφ hacc j : EReal) ≤ z ↔ ∀ i : s.Idx, (src i : EReal) ≤ z := by
  rw [multiReduction_maximumf_eq_fold, Finset.filter_true_of_mem fun i _ => hj _]
  refine (Finset.fold_max_le (α := s.Idx) (β := EReal) (b := FloatOps.ofBits (F := Ideal) .f32 0xFF800000#32) (f := src) (s := Finset.univ) z).trans ?_
  rw [word_bot]
  simp

/-- A reshape has the same entries. -/
theorem cast_le {s t : Shape} (x : FVec Ideal s .f32) (h : s.ShapeCasts t) (z : EReal) :
    (∀ i : t.Idx, (shapeCast t x h i : EReal) ≤ z) ↔ ∀ i : s.Idx, (x i : EReal) ≤ z := by
  constructor
  · intro H i
    have := H ((Shape.reshapeEquiv h).symm i)
    simpa [shapeCast] using this
  · intro H i
    exact H _

/-- The magnitude of every entry is at most `z`. -/
def within {s : Shape} (x : FVec Ideal s .f32) (z : EReal) : Prop := ∀ i : s.Idx, max (x i : EReal) (-(x i : EReal)) ≤ z

/-- The one entry of an array that has one. -/
theorem one_entry (i j : S1.Idx) : i = j := by
  funext a
  match a with
  | ⟨0, _⟩ => exact Subsingleton.elim (α := Fin 1) _ _

section
variable {F : FTy → Type} [FloatOps F]

/-- The largest magnitude of one half. -/
def halfmax (v : FVec F S256x1024 .f32) : F .f32 :=
  extractAt ![0, 0, 0] (shapeCast S1x1x1 (multiReduction .maximumf [1, 2] S1 (shapeCast S1x256x1024 (absf v) shapeCasts_S256x1024_S1x256x1024)
      0xFF800000#32 reduces_S1x256x1024_S1 (.inl rfl) rfl) shapeCasts_S1_S1x1x1) inpos_S1x1x1_p0_0_0

theorem pay61_eq (g : FVec F S512x1024 .f32) (v : FVec F S256x1024 .f32) (w : Vec F S1x256x1024 .f32) :
    k0_pay61 g v w = Scalar.maximumf (halfmax v) (halfmax (k0_pay59 g w)) := rfl

theorem pay69_eq (a : F .f32) (v w : FVec F S256x1024 .f32) :
    k0_pay69 a v (k0_pay68 w) = Scalar.maximumf a (Scalar.maximumf (halfmax w) (halfmax v)) := rfl

/-- The four halves' largest magnitude. -/
theorem lamax_eq (g : Prods F) (v w v' w' : Vec F S1x256x1024 .f32) :
    lamax g v w v' w' = Scalar.maximumf (Scalar.maximumf (halfmax (k0_pay57 (g false) v)) (halfmax (k0_pay59 (g true) w)))
      (Scalar.maximumf (halfmax (k0_pay62 (g false) v')) (halfmax (k0_pay64 (g true) w'))) := by
  rw [lamax, pay69_eq, pay61_eq]

end

theorem halfmax_le (v : FVec Ideal S256x1024 .f32) (z : EReal) : (halfmax v : EReal) ≤ z ↔ within v z := by
  refine (maxall_le _ _ (.inl rfl) rfl _ (fun i => one_entry _ _) z).trans ((cast_le _ _ z).trans ?_)
  exact Iff.rfl

theorem scalar_max_le (a b : Ideal .f32) (z : EReal) : (Scalar.maximumf a b : EReal) ≤ z ↔ (a : EReal) ≤ z ∧ (b : EReal) ≤ z :=
  max_le_iff (α := EReal)

theorem lamax_le (g : Prods Ideal) (v w v' w' : Vec Ideal S1x256x1024 .f32) (z : EReal) :
    (lamax g v w v' w' : EReal) ≤ z ↔
      (within (k0_pay57 (g false) v) z ∧ within (k0_pay59 (g true) w) z) ∧ within (k0_pay62 (g false) v') z ∧ within (k0_pay64 (g true) w') z := by
  rw [lamax_eq]
  rw [scalar_max_le, scalar_max_le, scalar_max_le, halfmax_le, halfmax_le, halfmax_le, halfmax_le]

/-- The largest of the published maxima and the device's own. -/
theorem pay1_le (a : Ideal .f32) (all : Vec Ideal S8x8x128 .f32) (z : EReal) :
    (k0_pay1 a all : EReal) ≤ z ↔ (∀ i, (all i : EReal) ≤ z) ∧ (a : EReal) ≤ z := by
  refine (max_le_iff (α := EReal)).trans (and_congr ?_ Iff.rfl)
  exact (maxall_le _ _ (.inl rfl) rfl _ (fun i => one_entry _ _) z).trans (cast_le _ _ z)

end Cert.KernelIdeal.Ring

end
-- ==== Proof.Entries.lean ====
/- The entries of the kernel's values. -/
module

public import Idealize.ShloMosaic.Lib.Pointwise
public import Idealize.ShloMosaic.PureOps.Ideal.Laws
public import proofs.«01_k».proof.Proof.Quant
public import proofs.«01_k».proof.Proof.Protocol
public import proofs.«01_k».proof.Proof.Buffers

@[expose] public section

noncomputable section

namespace Cert.KernelIdeal.Ring

open Idealize.ShloMosaic Idealize.SL.Sem Cert.KernelIdeal Cert.KernelIdeal.Gen
open Idealize.ShloMosaic.TcCoe
open scoped BigOperators

section
variable {F : FTy → Type} [FloatOps F]

/-- Row `r` of half `u`. -/
def rowU (u : Fin 2) (r : Fin 256) : Fin 512 := ⟨256 * u.val + r.val, by have := u.isLt; have := r.isLt; omega⟩

theorem half_apply (u : Fin 2) (g : FVec F S512x1024 .f32) (r : Fin 256) (k : Fin 1024) :
    half u (k0_pay8 g) (ix3 0 r k) = g (ix2 (rowU u r) k) := by
  have e : (halfR u).emb (ix3 0 r k) = ix3 (n0 := 1) (n1 := 512) (n2 := 1024) 0 (rowU u r) k := by
    funext a
    refine Fin.ext ?_
    match a with
    | ⟨0, _⟩ => rfl
    | ⟨1, _⟩ => show 256 * u.val + 1 * r.val = 256 * u.val + r.val; omega
    | ⟨2, _⟩ => show 0 + 1 * k.val = k.val; omega
  unfold half
  rw [e]
  pointwise [k0_pay8]

theorem accum_apply (u : Fin 2) (g : FVec F S512x1024 .f32) (v : Vec F S1x256x1024 .f32) (r : Fin 256) (k : Fin 1024) :
    accum u g v (ix3 0 r k) = FloatOps.addf (v (ix3 0 r k)) (g (ix2 (rowU u r) k)) := by
  match u with
  | 0 => unfold accum; pointwise [k0_pay12]; congr 2; exact congrArg (fun q => ix2 q k) (Fin.ext (by simp [rowU]))
  | 1 => unfold accum; pointwise [k0_pay14]; rfl

theorem pay57_apply (g : FVec F S512x1024 .f32) (v : Vec F S1x256x1024 .f32) (r : Fin 256) (k : Fin 1024) :
    k0_pay57 g v (ix2 r k) = accum 0 g v (ix3 0 r k) := by
  unfold accum; pointwise [k0_pay57, k0_pay12]
theorem pay59_apply (g : FVec F S512x1024 .f32) (v : Vec F S1x256x1024 .f32) (r : Fin 256) (k : Fin 1024) :
    k0_pay59 g v (ix2 r k) = accum 0 g v (ix3 0 r k) := by
  unfold accum; pointwise [k0_pay59, k0_pay12]
theorem pay62_apply (g : FVec F S512x1024 .f32) (v : Vec F S1x256x1024 .f32) (r : Fin 256) (k : Fin 1024) :
    k0_pay62 g v (ix2 r k) = accum 1 g v (ix3 0 r k) := by
  unfold accum; pointwise [k0_pay62, k0_pay14]
theorem pay64_apply (g : FVec F S512x1024 .f32) (v : Vec F S1x256x1024 .f32) (r : Fin 256) (k : Fin 1024) :
    k0_pay64 g v (ix2 r k) = accum 1 g v (ix3 0 r k) := by
  unfold accum; pointwise [k0_pay64, k0_pay14]

theorem pay66_apply (G : Fin 2 → FVec F S1x256x1024 .f32) (u : Fin 2) (r : Fin 256) (k : Fin 1024) :
    k0_pay66 (joined G) (ix2 (rowU u r) k) = G u (ix3 0 r k) := by
  have e : k0_pay66 (joined G) (ix2 (rowU u r) k) = joined G (ix3 0 (rowU u r) k) := by pointwise [k0_pay66]
  rw [e]
  have h1 : (rowU u r).val / 256 = u.val := by have := r.isLt; show (256 * u.val + r.val) / 256 = u.val; omega
  have h2 : (rowU u r).val % 256 = r.val := by have := r.isLt; show (256 * u.val + r.val) % 256 = r.val; omega
  show G ⟨(rowU u r).val / 256, _⟩ (ix3 0 ⟨(rowU u r).val % 256, _⟩ ⟨k.val, _⟩) = _
  have e1 : (⟨(rowU u r).val / 256, Nat.div_lt_of_lt_mul (show (rowU u r).val < 256 * 2 from (rowU u r).isLt)⟩ : Fin 2) = u := Fin.ext h1
  have e2 : (⟨(rowU u r).val % 256, Nat.mod_lt _ (by decide)⟩ : Fin 256) = r := Fin.ext h2
  exact congrArg₂ (fun p q => G p (ix3 0 q k)) e1 e2

/-- A value is scaled up, rounded to the short format and scaled down again. -/
theorem pay4_at (y : FVec F S512x1024 .f32) (a : F .f32) (all : Vec F S8x8x128 .f32) (i : S512x1024.Idx) :
    k0_pay4 y a all i = FloatOps.mulf (FloatOps.extf .f32 bitsLt_fp8e4m3_f32 (FloatOps.truncf .fp8e4m3 bitsLt_fp8e4m3_f32
      (FloatOps.mulf (y i) (Scalar.divf (FloatOps.ofBits .f32 0x43E00000#32) (k0_pay1 a all)))))
      (Scalar.divf (k0_pay1 a all) (FloatOps.ofBits .f32 0x43E00000#32)) := by
  pointwise [k0_pay4, k0_pay3, k0_pay2]

end

theorem pay7_apply (x : Vec Ideal S512x512 .f32) (w : Vec Ideal S512x1024 .f32) (r : Fin 512) (k : Fin 1024) :
    (k0_pay7 x w (ix2 r k) : EReal) = ∑ i : Fin 512, (x (ix2 r i) : EReal) * (w (ix2 i k) : EReal) := by
  pointwise [k0_pay7]

theorem pay4_apply (y : FVec Ideal S512x1024 .f32) (a : Ideal .f32) (all : Vec Ideal S8x8x128 .f32) (i : S512x1024.Idx) :
    (k0_pay4 y a all i : EReal) = quantK (k0_pay1 a all) (y i) := by
  rw [pay4_at, quantK, ← word_448]
  generalize k0_pay1 a all = t
  rfl

end Cert.KernelIdeal.Ring

end
-- ==== Proof.Result.lean ====
/- What the operands' windows read, and what the result's window leaves. -/
module

public import Idealize.ShloMosaic.Lib.Pipeline.Value
public import proofs.«01_k».proof.Proof.Launch

@[expose] public section

noncomputable section

namespace Cert.KernelIdeal.Ring

open Idealize.ShloMosaic Idealize.SL.Sem Cert.KernelIdeal Cert.KernelIdeal.Gen
open Idealize.ShloMosaic.TcCoe
open scoped BigOperators

section
variable {F : FTy → Type} [FloatOps F] (m : (ℓ : Loc nD τ sig) → Buf (Elt F) ℓ) (ρ : Dev nD → PrngReg)

/-- A window whose block is the whole array names every element by its own coordinates. -/
theorem blk_emb0 (i : S4096x512.Idx) : (win0_0.blk (0 : Fin 1)).view.emb i = i := by
  funext a
  exact Fin.ext (win0_0.rect_emb_val_of_index_zero (0 : Fin 1) a rfl i)
@[inherit_doc blk_emb0] theorem blk_emb1 (i : S512x2048.Idx) : (win0_1.blk (0 : Fin 1)).view.emb i = i := by
  funext a
  exact Fin.ext (win0_1.rect_emb_val_of_index_zero (0 : Fin 1) a rfl i)
@[inherit_doc blk_emb0] theorem blk_emb2 (i : S512x2048.Idx) : (win0_2.blk (0 : Fin 1)).view.emb i = i := by
  funext a
  exact Fin.ext (win0_2.rect_emb_val_of_index_zero (0 : Fin 1) a rfl i)

/-- What a device holds of the operands is what its memory held at the launch. -/
theorem xstg_apply (c : Dev nD) (i : S4096x512.Idx) : xstg m c i = m ((c : Thread nD τ).loc main_arg0) i := by
  unfold xstg
  rw [View.read_apply, blk_emb0]
  rfl
@[inherit_doc xstg_apply] theorem wstg_apply (c : Dev nD) (i : S512x2048.Idx) : wstg m c i = m ((c : Thread nD τ).loc main_arg1) i := by
  unfold wstg
  rw [View.read_apply, blk_emb1]
  rfl

/-- The result after the run. -/
theorem finalA_out (c : Dev nD) : finalA m ρ c (2 : Fin 3) = outV m c := by
  funext i
  have h := (dats (F := F) m ρ 0 c).arrAt_emb_eq_flushed (2 : Fin 3)
    (fun t t' _ _ hne => absurd (Subsingleton.elim (α := Fin 1) t t') hne) (0 : Fin 1) (by decide +kernel) i
  refine (congrArg ((dats (F := F) m ρ 0 c).arrAt (2 : Fin 3) cfg0.N) (blk_emb2 i).symm).trans (h.trans ?_)
  rfl

end

end Cert.KernelIdeal.Ring

end
-- ==== Proof.Sums.lean ====
/- The products added up around the ring, over the extended reals. -/
module

public import proofs.«01_k».proof.Proof.Entries
public import proofs.«01_k».proof.Proof.Result

@[expose] public section

noncomputable section

namespace Cert.KernelIdeal.Ring

open Idealize.ShloMosaic Idealize.SL.Sem Cert.KernelIdeal Cert.KernelIdeal.Gen
open Idealize.ShloMosaic.TcCoe
open scoped BigOperators

variable (m : (ℓ : Loc nD τ sig) → Buf (Elt Ideal) ℓ)

/-- Row `r` of the chunk `q`, and column `k` of a direction's half. -/
def rowQ (q : Fin 8) (r : Fin 512) : Fin 4096 := ⟨512 * q.val + r.val, by have := q.isLt; have := r.isLt; omega⟩
@[inherit_doc rowQ] def colB (b : Bool) (k : Fin 1024) : Fin 2048 :=
  ⟨(match b with | false => 0 | true => 1024) + k.val, by have := k.isLt; cases b <;> (dsimp only; omega)⟩

/-- The chunk a device multiplies at a step. -/
def chunk (b : Bool) (c : Dev nD) (n : ℕ) : Fin 8 :=
  match b with
  | false => ⟨(c.val + 15 - n) % 8, Nat.mod_lt _ (by decide)⟩
  | true => ⟨(c.val + n + 1) % 8, Nat.mod_lt _ (by decide)⟩

/-- The chunk of the device before, a step before, is the same. -/
theorem chunk_before (b : Bool) (c : Dev nD) (n : ℕ) (hn : n < 7) : chunk b (nb (!b) c) n = chunk b c (n + 1) := by
  rw [nb_eq]
  have := c.isLt
  cases b <;> (refine Fin.ext ?_; simp only [chunk, ahead, Bool.not_false, Bool.not_true]; omega)

theorem chunk_last (b : Bool) (c : Dev nD) : chunk b c 7 = c := by
  have hc : c.val < 8 := c.isLt
  cases b <;> (refine Fin.ext ?_; simp only [chunk]; omega)

/-- The operands of a device. -/
def xe (d : Dev nD) : S4096x512.Idx → EReal := m ((d : Thread nD τ).loc main_arg0)
@[inherit_doc xe] def we (d : Dev nD) : S512x2048.Idx → EReal := m ((d : Thread nD τ).loc main_arg1)

/-- A device's share of one entry of the product: the sum over its block of the contracted axis. -/
def term (b : Bool) (q : Fin 8) (r : Fin 512) (k : Fin 1024) (d : Dev nD) : EReal :=
  ∑ i : Fin 512, xe m d (ix2 (rowQ q r) i) * we m d (ix2 i (colB b k))

theorem mulV_apply (b : Bool) (c : Dev nD) (off : Fin 2 → Nat) (inb : ∀ a, off a + S512x512.size a ≤ S4096x512.size a)
    (q : Fin 8) (ho : off = ![512 * q.val, 0]) (r : Fin 512) (k : Fin 1024) :
    (mulV m b c off inb (ix2 r k) : EReal) = term m b q r k c := by
  subst ho
  unfold mulV prod
  rw [pay7_apply]
  unfold term
  refine Finset.sum_congr rfl fun i _ => ?_
  have ex : xs.view.readAt (Elt Ideal) (Rect.unit (s := S4096x512) ![512 * q.val, 0] S512x512.size inb).toLoadRect (xstg m c) (ix2 r i)
      = xstg m c (ix2 (rowQ q r) i) := by
    show xstg m c _ = _
    refine congrArg (xstg m c) (funext fun a => Fin.ext ?_)
    match a with
    | ⟨0, _⟩ => show 512 * q.val + 1 * r.val = 512 * q.val + r.val; omega
    | ⟨1, _⟩ => show 0 + 1 * i.val = i.val; omega
  have ew : ws.view.readAt (Elt Ideal) (colR b).toLoadRect (wstg m c) (ix2 i k) = wstg m c (ix2 i (colB b k)) := by
    show wstg m c _ = _
    refine congrArg (wstg m c) (funext fun a => Fin.ext ?_)
    match a with
    | ⟨0, _⟩ => show 0 + 1 * i.val = i.val; omega
    | ⟨1, _⟩ => show (match b with | false => 0 | true => 1024) + 1 * k.val = (match b with | false => 0 | true => 1024) + k.val; omega
  rw [ex, ew, xstg_apply, wstg_apply]
  rfl

/-- The product of a step, by entries. -/
theorem gv_apply (b : Bool) (c : Dev nD) (n : ℕ) (hn : n ≤ 7) (r : Fin 512) (k : Fin 1024) :
    (gv m b c n (ix2 r k) : EReal) = term m b (chunk b c n) r k c := by
  unfold gv
  split
  · rename_i h
    refine mulV_apply m b c _ _ _ ?_ r k
    cases b
    · exact k0_off1_eq c ⟨n, h⟩
    · exact k0_off2_eq c ⟨n, h⟩
  · have e : n = 7 := by omega
    subst e
    refine mulV_apply m b c _ _ _ ?_ r k
    rw [chunk_last]
    exact k0_off3_eq c

/-- Values added up along a direction, from the device `n` places before on. -/
def along (T : Dev nD → EReal) (b : Bool) : Dev nD → ℕ → EReal
  | c, 0 => T c
  | c, n + 1 => along T b (nb (!b) c) n + T c

theorem acc_apply (b : Bool) (u : Fin 2) (r : Fin 256) (k : Fin 1024) : ∀ (n : ℕ) (c : Dev nD), n ≤ 7 →
    (acc m b c n u (ix3 0 r k) : EReal) = along (term m b (chunk b c n) (rowU u r) k) b c n
  | 0, c, hn => by
    rw [acc, half_apply, gv_apply m b c 0 hn]; rfl
  | n + 1, c, hn => by
    rw [acc, accum_apply, gv_apply m b c (n + 1) hn, along]
    have h := acc_apply b u r k n (nb (!b) c) (by omega)
    rw [chunk_before b c n (by omega)] at h
    exact congrArg (fun t : EReal => t + term m b (chunk b c (n + 1)) (rowU u r) k c) h

/-- Once around, every device has added its value. -/
theorem along_all (T : Dev nD → EReal) (b : Bool) (c : Dev nD) : along T b c 7 = ∑ d : Dev nD, T d := by
  let e : Fin 8 → Dev nD := fun i => (nb (!b))^[i.val] c
  have he : Function.Bijective e := by
    have : ∀ (b : Bool) (c : Dev nD), Function.Injective fun i : Fin 8 => (nb (!b))^[i.val] c := by decide
    exact Finite.injective_iff_bijective.mp (this b c)
  rw [← he.sum_comp T, Fin.sum_univ_eight]
  simp only [along]
  show _ = T c + T (nb (!b) c) + T (nb (!b) (nb (!b) c)) + T (nb (!b) (nb (!b) (nb (!b) c))) + T (nb (!b) (nb (!b) (nb (!b) (nb (!b) c))))
    + T (nb (!b) (nb (!b) (nb (!b) (nb (!b) (nb (!b) c))))) + T (nb (!b) (nb (!b) (nb (!b) (nb (!b) (nb (!b) (nb (!b) c))))))
    + T (nb (!b) (nb (!b) (nb (!b) (nb (!b) (nb (!b) (nb (!b) (nb (!b) c)))))))
  abel

/-- The entry a device ends with is the sum over the devices. -/
theorem acc_end (b : Bool) (c : Dev nD) (u : Fin 2) (r : Fin 256) (k : Fin 1024) :
    (acc m b c 7 u (ix3 0 r k) : EReal) = ∑ d : Dev nD, term m b c (rowU u r) k d := by
  rw [acc_apply m b u r k 7 c le_rfl, along_all, chunk_last]

end Cert.KernelIdeal.Ring

end
-- ==== Proof.Largest.lean ====
/- The largest entry, and the result, over the extended reals. -/
module

public import proofs.«01_k».proof.Proof.Maxima
public import proofs.«01_k».proof.Proof.Sums

@[expose] public section

noncomputable section

namespace Cert.KernelIdeal.Ring

open Idealize.ShloMosaic Idealize.SL.Sem Cert.KernelIdeal Cert.KernelIdeal.Gen
open Idealize.ShloMosaic.TcCoe
open scoped BigOperators

variable (m : (ℓ : Loc nD τ sig) → Buf (Elt Ideal) ℓ)

/-- An entry of the product: row `r` of chunk `c`, column `k` of half `b`. -/
def ysum (c : Dev nD) (b : Bool) (r : Fin 512) (k : Fin 1024) : EReal := ∑ d : Dev nD, term m b c r k d

/-- A magnitude is at most `z`. -/
def small (z y : EReal) : Prop := max y (-y) ≤ z

/-- Every row of a chunk is a row of one half. -/
theorem rowU_split (r : Fin 512) : ∃ (u : Fin 2) (s : Fin 256), r = rowU u s := by
  have := r.isLt
  refine ⟨⟨r.val / 256, by omega⟩, ⟨r.val % 256, by omega⟩, Fin.ext ?_⟩
  show r.val = 256 * (r.val / 256) + r.val % 256
  omega

theorem forall_rows {p : Fin 512 → Prop} : (∀ r, p r) ↔ (∀ s, p (rowU 0 s)) ∧ ∀ s, p (rowU 1 s) := by
  constructor
  · exact fun H => ⟨fun s => H _, fun s => H _⟩
  · rintro ⟨h0, h1⟩ r
    obtain ⟨u, s, rfl⟩ := rowU_split r
    match u with
    | 0 => exact h0 s
    | 1 => exact h1 s

/-- The bound on one half of one direction's columns. -/
theorem within_half (v : FVec Ideal S256x1024 .f32) (b : Bool) (c : Dev nD) (u : Fin 2)
    (hv : ∀ r k, v (ix2 r k) = accum u (gv m b c 7) (acc m b (nb (!b) c) 6 u) (ix3 0 r k)) (z : EReal) :
    within v z ↔ ∀ (r : Fin 256) (k : Fin 1024), small z (ysum m c b (rowU u r) k) := by
  have hy : ∀ r k, (v (ix2 r k) : EReal) = ysum m c b (rowU u r) k := fun r k => (hv r k).trans (acc_end m b c u r k)
  constructor
  · intro H r k
    have := H (ix2 r k)
    rwa [hy] at this
  · intro H i
    obtain ⟨r, k, rfl⟩ : ∃ (r : Fin 256) (k : Fin 1024), i = ix2 r k := ⟨i 0, i 1, eq_ix2 i⟩
    rw [hy]
    exact H r k

/-- The device's largest entry. -/
theorem lam_le (c : Dev nD) (z : EReal) : (lam m c : EReal) ≤ z ↔ ∀ (b : Bool) (r : Fin 512) (k : Fin 1024), small z (ysum m c b r k) := by
  unfold lam
  have w0 := within_half m (k0_pay57 (gv m false c 7) (acc m false (nb true c) 6 0)) false c 0 (fun r k => pay57_apply _ _ r k) z
  have w1 := within_half m (k0_pay59 (gv m true c 7) (acc m true (nb false c) 6 0)) true c 0 (fun r k => pay59_apply _ _ r k) z
  have w2 := within_half m (k0_pay62 (gv m false c 7) (acc m false (nb true c) 6 1)) false c 1 (fun r k => pay62_apply _ _ r k) z
  have w3 := within_half m (k0_pay64 (gv m true c 7) (acc m true (nb false c) 6 1)) true c 1 (fun r k => pay64_apply _ _ r k) z
  rw [lamax_le, w0, w1, w2, w3, Bool.forall_bool, forall_rows, forall_rows]
  exact and_and_and_comm

/-- The largest entry of all, as a device finds it. -/
def amaxV (c : Dev nD) : EReal := k0_pay1 (lam m c) (allV m c zeroV)

theorem amaxV_le (c : Dev nD) (z : EReal) :
    amaxV m c ≤ z ↔ ∀ (d : Dev nD) (b : Bool) (r : Fin 512) (k : Fin 1024), small z (ysum m d b r k) := by
  unfold amaxV
  rw [pay1_le]
  constructor
  · rintro ⟨h1, h2⟩ d
    rw [← lam_le]
    by_cases hd : d = c
    · exact hd ▸ h2
    · have := h1 (ix3 (n0 := 8) (n1 := 8) (n2 := 128) ⟨d.val, d.isLt⟩ 0 0)
      have e : allV m c zeroV (ix3 (n0 := 8) (n1 := 8) (n2 := 128) ⟨d.val, d.isLt⟩ 0 0) = lam m d := if_neg hd
      rwa [e] at this
  · intro H
    refine ⟨fun i => ?_, (lam_le m c z).mpr (H c)⟩
    by_cases hd : (⟨(i 0).val, (i 0).isLt⟩ : Dev nD) = c
    · have e : allV m c zeroV i = (zeroV : Ideal .f32) := if_pos hd
      rw [e]
      have hz : ((zeroV : Ideal .f32) : EReal) = 0 := word_zero
      rw [hz]
      have h := H c false 0 0
      rcases le_total 0 (ysum m c false 0 0) with h0 | h0
      · exact h0.trans ((le_max_left _ _).trans h)
      · exact (EReal.neg_nonneg.mpr h0).trans ((le_max_right _ _).trans h)
    · have e : allV m c zeroV i = lam m ⟨(i 0).val, (i 0).isLt⟩ := if_neg hd
      rw [e]
      exact (lam_le m _ z).mpr (H _)

/-- A column half of the result. -/
theorem colV_apply (c : Dev nD) (b : Bool) (r : Fin 512) (k : Fin 1024) :
    (colV m c b (ix2 r k) : EReal) = quantK (amaxV m c) (ysum m c b r k) := by
  obtain ⟨u, s, rfl⟩ := rowU_split r
  unfold colV
  rw [pay4_apply, pay66_apply]
  exact congrArg (quantK (amaxV m c)) (acc_end m b c u s k)

/-- The result on a device. -/
theorem outV_apply (c : Dev nD) (b : Bool) (r : Fin 512) (k : Fin 1024) :
    (outV m c (ix2 r (colB b k)) : EReal) = quantR (amaxV m c) (ysum m c b r k) := by
  have e : (ix2 r (colB b k) : S512x2048.Idx) = (colR b).emb (ix2 r k) := by
    funext a
    refine Fin.ext ?_
    rw [colR_val]
    match a with
    | ⟨0, _⟩ => exact (Nat.zero_add _).symm
    | ⟨1, _⟩ => rfl
  rw [e, outV_col, colV_apply, quant_eq]
  exact (amaxV_le m c (amaxV m c)).mp le_rfl c b r k

end Cert.KernelIdeal.Ring

end
-- ==== Proof.Plain.lean ====
/- The reference's run, array by array. -/
module

public import proofs.«01_k».proof.Proof.Gen.ReferenceIdeal.Value
public import proofs.«01_k».proof.Proof.Quant
public import Idealize.ShloMosaic.Lib.Pipeline.ValueKit.Basic

@[expose] public section

noncomputable section

namespace Cert.ReferenceIdeal.Plain

open Cert.ReferenceIdeal Cert.ReferenceIdeal.Gen Idealize.ShloMosaic Idealize.ShloMosaic.TcCoe Idealize.SL.Sem
open Idealize.ShloMosaic.StableHlo
open scoped BigOperators

section
variable {F : FTy → Type} [FloatOps F] (m : (ℓ : Loc nD τ sig) → Buf (Elt F) ℓ)

/-- The plain product. -/
def yArr (c : Dev nD) : FVec F S4096x2048 .f32 :=
  Host.dotGeneral dot_S4096x4096_S4096x2048_S4096x2048_1_0_0_1_n_n none (m ((c : Thread nD τ).loc main_arg0)) (m ((c : Thread nD τ).loc main_arg1))

/-- Its largest magnitude. -/
def amaxArr (c : Dev nD) : FVec F S_ .f32 :=
  Host.reduce FloatOps.maximumf (Host.absf (yArr m c)) (constant S_ .f32 0xFF800000#32) reducesTo_S4096x2048_S_d0_1 h_S_

theorem V_y (c : Dev nD) : V m c main_v0 = yArr m c := by
  unfold_abbrev_sides
  after_results
  rfl

theorem V_scale (c : Dev nD) : V m c main_v4 = shapeCast S1x1 (Host.divf (amaxArr m c) (constant S_ .f32 0x43E00000#32)) shapeCasts_S_S1x1 := by
  unfold_abbrev_sides
  after_results
  rfl

end

section
variable {F : FTy → Type} [FloatOps F] (m : (ℓ : Loc nD τ sig) → Buf (Elt F) ℓ)

/-- A window whose block is the whole array names every element by its own coordinates. -/
theorem emb0 (i : S4096x2048.Idx) : (win0_0.blk (0 : Fin 1)).view.emb i = i := by
  funext a
  exact Fin.ext (win0_0.rect_emb_val_of_index_zero (0 : Fin 1) a rfl i)
@[inherit_doc emb0] theorem emb1 (i : S1x1.Idx) : (win0_1.blk (0 : Fin 1)).view.emb i = i := by
  funext a
  exact Fin.ext (win0_1.rect_emb_val_of_index_zero (0 : Fin 1) a rfl i)
@[inherit_doc emb0] theorem emb2 (i : S4096x2048.Idx) : (win0_2.blk (0 : Fin 1)).view.emb i = i := by
  funext a
  exact Fin.ext (win0_2.rect_emb_val_of_index_zero (0 : Fin 1) a rfl i)

/-- The largest magnitude over the quantiser's largest value, as the kernel's one-entry operand. -/
def scaleArr (c : Dev nD) : FVec F S1x1 .f32 :=
  shapeCast S1x1 (Host.divf (amaxArr m c) (constant S_ .f32 0x43E00000#32)) shapeCasts_S_S1x1

/-- The kernel reads the product and the scale. -/
theorem read0 (c : Dev nD) (i : S4096x2048.Idx) : (iblk m c 0 (0 : Fin 1) : Vec F S4096x2048 .f32) i = yArr m c i := by
  unfold iblk
  rw [View.read_apply]
  rw [← V_y m c]
  exact congrArg (V m c main_v0) (emb0 i)
@[inherit_doc read0] theorem read1 (c : Dev nD) (i : S1x1.Idx) : (iblk m c 1 (0 : Fin 1) : Vec F S1x1 .f32) i = scaleArr m c i := by
  unfold iblk
  rw [View.read_apply]
  have := V_scale m c
  unfold scaleArr
  rw [← this]
  exact congrArg (V m c main_v4) (emb1 i)

/-- One value through the quantiser. -/
def quant1 (s y : F .f32) : F .f32 :=
  FloatOps.mulf (FloatOps.minimumf (Scalar.ofBits .f32 0x43E00000#32) (FloatOps.maximumf (Scalar.ofBits .f32 0xC3E00000#32)
    (FloatOps.extf .f32 bitsLt_fp8e4m3_f32 (FloatOps.truncf .fp8e4m3 bitsLt_fp8e4m3_f32 (FloatOps.divf y s))))) s

/-- The write-back takes the whole block. -/
theorem cut2 (x : (cfg0.win (2 : Fin 3)).block.Idx → Elt F (cfg0.win (2 : Fin 3)).elt) (i : S4096x2048.Idx) :
    ((cfg0.win (2 : Fin 3)).cut (grid0.coords (0 : Fin 1)) x i : Elt F .f32) = x i := rfl

theorem out_apply (x0 : Vec F S4096x2048 .f32) (x1 : Vec F S1x1 .f32) (i : S4096x2048.Idx) :
    out0_2 x0 x1 i = quant1 (x1 (Value.ix2_1 i)) (x0 i) := by
  unfold out0_2
  rw [View.ld_unit_lit _ _ (by decide), View.ld_unit_lit _ _ (by decide), Value.canon2_eq]
  have e : Value.ix2_0 i = i := by
    funext a
    match a with
    | ⟨0, _⟩ => rfl
    | ⟨1, _⟩ => rfl
  unfold Value.E2 quant1
  rw [e]

/-- The reference's result at an index. -/
theorem final_apply (c : Dev nD) (i : S4096x2048.Idx) :
    (dats m 0 c).arrAt 2 cfg0.N i = quant1 (scaleArr m c (Value.ix2_1 i)) (yArr m c i) := by
  have h := (dats m 0 c).arrAt_emb_eq_flushed (2 : Fin 3)
    (fun t t' _ _ hne => absurd (Subsingleton.elim (α := Fin 1) t t') hne) (0 : Fin 1) (by decide +kernel) i
  refine (congrArg ((dats m 0 c).arrAt (2 : Fin 3) cfg0.N) (emb2 i).symm).trans (h.trans ?_)
  have h2 := congrFun (Value.flushed2 m c (0 : Fin 1)) i
  refine (cast_eq _ _).trans (h2.trans ?_)
  refine (cut2 _ i).trans ?_
  refine (out_apply _ _ i).trans ?_
  rw [read0, read1]

end

end Cert.ReferenceIdeal.Plain

end
-- ==== Proof.Product.lean ====
/- The reference's result in the extended reals. -/
module

public import proofs.«01_k».proof.Proof.Plain
public import Idealize.ShloMosaic.Lib.Pointwise
public import Idealize.ShloMosaic.PureOps.Reduce
public import Idealize.ShloMosaic.PureOps.Ideal.Laws

@[expose] public section

noncomputable section

namespace Cert.ReferenceIdeal.Plain

open Cert.ReferenceIdeal Cert.ReferenceIdeal.Gen Idealize.ShloMosaic Idealize.ShloMosaic.TcCoe Idealize.SL.Sem
open Idealize.ShloMosaic.StableHlo
open scoped BigOperators

open Cert.KernelIdeal.Ring (quantR word_448 word_neg448 word_bot)

section
variable {F : FTy → Type} [FloatOps F] (m : (ℓ : Loc nD τ sig) → Buf (Elt F) ℓ)

/-- The scale, at its one place. -/
theorem scale_apply (c : Dev nD) (i : S1x1.Idx) :
    ∃ j : S_.Idx, scaleArr m c i = FloatOps.hostDivf (amaxArr m c j) (FloatOps.ofBits .f32 0x43E00000#32) :=
  ⟨Shape.reshapeEquiv shapeCasts_S_S1x1 i, rfl⟩

end

section
variable (m : (ℓ : Loc nD τ sig) → Buf (Elt Ideal) ℓ)

/-- The two operands, whole. -/
def X (c : Dev nD) : S4096x4096.Idx → EReal := m ((c : Thread nD τ).loc main_arg0)
@[inherit_doc X] def W (c : Dev nD) : S4096x2048.Idx → EReal := m ((c : Thread nD τ).loc main_arg1)

/-- The product's entries. -/
def Y (c : Dev nD) (i : Fin 4096) (j : Fin 2048) : EReal := ∑ k : Fin 4096, X m c (ix2 i k) * W m c (ix2 k j)

theorem y_apply (c : Dev nD) (i : Fin 4096) (j : Fin 2048) : (yArr m c (ix2 i j) : EReal) = Y m c i j := by
  unfold Y X W
  pointwise [yArr]

/-- The largest magnitude. -/
def A (c : Dev nD) : EReal := amaxArr m c (fun a => a.elim0)

theorem A_le (c : Dev nD) (z : EReal) : A m c ≤ z ↔ ∀ i j, max (Y m c i j) (-(Y m c i j)) ≤ z := by
  unfold A amaxArr
  rw [Host.reduce_eq_fold, Finset.filter_true_of_mem fun i _ => funext fun a => a.elim0]
  refine (Finset.fold_max_le (α := S4096x2048.Idx) (β := EReal) (b := FloatOps.ofBits (F := Ideal) .f32 0xFF800000#32)
    (f := Host.absf (yArr m c)) (s := Finset.univ) z).trans ?_
  rw [word_bot]
  constructor
  · rintro ⟨-, H⟩ i j
    rw [← y_apply]
    exact H (ix2 i j) (Finset.mem_univ _)
  · intro H
    refine ⟨bot_le, fun x _ => ?_⟩
    obtain ⟨i, j, rfl⟩ : ∃ (i : Fin 4096) (j : Fin 2048), x = ix2 i j := ⟨x 0, x 1, eq_ix2 x⟩
    have := H i j
    rw [← y_apply] at this
    exact this

/-- One value through the quantiser, in the extended reals. -/
theorem quant1_eq (s y : EReal) : (quant1 (F := Ideal) s y : EReal) =
    min ((448 : ℝ) : EReal) (max ((-448 : ℝ) : EReal) (Ideal.div y s)) * s := by
  rw [← word_448, ← word_neg448]
  rfl

/-- The reference's result. -/
theorem final_eq (c : Dev nD) (i : Fin 4096) (j : Fin 2048) :
    ((dats m 0 c).arrAt 2 cfg0.N (ix2 i j : S4096x2048.Idx) : EReal) = quantR (A m c) (Y m c i j) := by
  refine (final_apply m c (ix2 i j)).trans ?_
  obtain ⟨j', e⟩ := scale_apply m c (Value.ix2_1 (ix2 i j))
  have e' : (scaleArr m c (Value.ix2_1 (ix2 i j)) : EReal) = Ideal.div (A m c) ((448 : ℝ) : EReal) := by
    rw [e, ← word_448]
    have : j' = (fun a => a.elim0) := funext fun a => a.elim0
    rw [this]
    rfl
  refine (quant1_eq _ _).trans ?_
  unfold quantR
  rw [e', y_apply]

end

end Cert.ReferenceIdeal.Plain

end
-- ==== Proof.Whole.lean ====
/- The kernel against the reference. -/
module

public import proofs.«01_k».proof.Proof.Largest
public import proofs.«01_k».proof.Proof.Product
public import proofs.«01_k».proof.Defs

@[expose] public section

noncomputable section

namespace Cert.KernelIdeal.Ring

open Idealize.ShloMosaic Idealize.SL.Sem Cert.KernelIdeal Cert.KernelIdeal.Gen
open Idealize.ShloMosaic.TcCoe
open scoped BigOperators

/-- A sum over the contracted axis is the sum, device by device, over its blocks. -/
theorem sum_blocks (f : Fin 4096 → EReal) : ∑ d : Fin 8, ∑ i : Fin 512, f (rowQ d i) = ∑ k, f k := by
  rw [← Fintype.sum_prod_type' (fun (d : Fin 8) (i : Fin 512) => f (rowQ d i))]
  refine Fintype.sum_equiv (finProdFinEquiv (m := 8) (n := 512)) _ _ fun p => congrArg f (Fin.ext ?_)
  show 512 * p.1.val + p.2.val = p.2.val + 512 * p.1.val
  omega

/-- Every row lies in one chunk, every column in one half. -/
theorem rowQ_split (i : Fin 4096) : ∃ (q : Fin 8) (r : Fin 512), i = rowQ q r := by
  have := i.isLt
  refine ⟨⟨i.val / 512, by omega⟩, ⟨i.val % 512, by omega⟩, Fin.ext ?_⟩
  show i.val = 512 * (i.val / 512) + i.val % 512
  omega
@[inherit_doc rowQ_split] theorem colB_split (j : Fin 2048) : ∃ (b : Bool) (k : Fin 1024), j = colB b k := by
  have := j.isLt
  by_cases h : j.val < 1024
  · refine ⟨false, ⟨j.val, h⟩, Fin.ext ?_⟩
    show j.val = 0 + j.val
    omega
  · refine ⟨true, ⟨j.val - 1024, by omega⟩, Fin.ext ?_⟩
    show j.val = 1024 + (j.val - 1024)
    omega

section
variable (m : (ℓ : Loc nD τ sig) → Buf (Elt Ideal) ℓ) (m' : (ℓ : Loc ReferenceIdeal.nD ReferenceIdeal.τ ReferenceIdeal.sig) → Buf (Elt Ideal) ℓ)

/-- Each device holds its part of the whole operands: a block of the first one's columns, of the second one's rows. -/
def Parts : Prop := ∀ c : Dev nD,
  m ((c : Thread nD τ).loc main_arg0) = Layout.block ⟨2, ![4096, 512]⟩ ⟨2, ![4096, 4096]⟩ 1 8 c (ReferenceIdeal.Plain.X m' 0)
  ∧ m ((c : Thread nD τ).loc main_arg1) = Layout.block ⟨2, ![512, 2048]⟩ ⟨2, ![4096, 2048]⟩ 0 8 c (ReferenceIdeal.Plain.W m' 0)

variable {m m'} (hP : Parts m m')
include hP

theorem xe_eq (d : Dev nD) (i : Fin 4096) (k : Fin 512) : xe m d (ix2 i k) = ReferenceIdeal.Plain.X m' 0 (ix2 i (rowQ d k)) := by
  unfold xe
  rw [(hP d).1]
  refine congrArg (ReferenceIdeal.Plain.X m' 0) (funext fun a => Fin.ext ?_)
  match a with
  | ⟨0, _⟩ => rfl
  | ⟨1, _⟩ => show d.val * 512 + k.val = 512 * d.val + k.val; omega

theorem we_eq (d : Dev nD) (k : Fin 512) (j : Fin 2048) : we m d (ix2 k j) = ReferenceIdeal.Plain.W m' 0 (ix2 (rowQ d k) j) := by
  unfold we
  rw [(hP d).2]
  refine congrArg (ReferenceIdeal.Plain.W m' 0) (funext fun a => Fin.ext ?_)
  match a with
  | ⟨0, _⟩ => show d.val * 512 + k.val = 512 * d.val + k.val; omega
  | ⟨1, _⟩ => rfl

/-- An entry of the kernel's product is the plain product's. -/
theorem ysum_eq (c : Dev nD) (b : Bool) (r : Fin 512) (k : Fin 1024) : ysum m c b r k = ReferenceIdeal.Plain.Y m' 0 (rowQ c r) (colB b k) := by
  unfold ysum term ReferenceIdeal.Plain.Y
  rw [← sum_blocks fun i => ReferenceIdeal.Plain.X m' 0 (ix2 (rowQ c r) i) * ReferenceIdeal.Plain.W m' 0 (ix2 i (colB b k))]
  exact Finset.sum_congr rfl fun d _ => Finset.sum_congr rfl fun i _ => by rw [xe_eq hP, we_eq hP]

/-- Every device finds the largest magnitude of the plain product. -/
theorem amax_eq (c : Dev nD) : amaxV m c = ReferenceIdeal.Plain.A m' 0 := by
  refine eq_of_forall_ge_iff fun z => ?_
  rw [amaxV_le, ReferenceIdeal.Plain.A_le]
  constructor
  · intro H i j
    obtain ⟨q, r, rfl⟩ := rowQ_split i
    obtain ⟨b, k, rfl⟩ := colB_split j
    have := H q b r k
    rwa [ysum_eq hP] at this
  · intro H d b r k
    rw [ysum_eq hP]
    exact H _ _

/-- A device's result is its block of the reference's rows. -/
theorem out_eq (c : Dev nD) :
    outV m c = Layout.block ⟨2, ![512, 2048]⟩ ⟨2, ![4096, 2048]⟩ 0 8 c ((ReferenceIdeal.Gen.dats m' 0 0).arrAt 2 ReferenceIdeal.cfg0.N) := by
  funext i
  obtain ⟨r, j, rfl⟩ : ∃ (r : Fin 512) (j : Fin 2048), i = ix2 r j := ⟨i 0, i 1, eq_ix2 i⟩
  obtain ⟨b, k, rfl⟩ := colB_split j
  refine (outV_apply m c b r k).trans ?_
  rw [amax_eq hP, ysum_eq hP, ← ReferenceIdeal.Plain.final_eq m' 0 (rowQ c r) (colB b k)]
  refine congrArg ((ReferenceIdeal.Gen.dats m' 0 0).arrAt 2 ReferenceIdeal.cfg0.N) (funext fun a => Fin.ext ?_)
  match a with
  | ⟨0, _⟩ => show 512 * c.val + r.val = c.val * 512 + r.val; omega
  | ⟨1, _⟩ => rfl

end

/-- The kernel on eight devices computes what the reference does on one. -/
theorem algebraic : Cert.algebraic_KernelIdeal_ReferenceIdeal := fun m ρ m' ρ' _ hP =>
  ⟨(ReferenceIdeal.Gen.dats m' 0 0).arrAt 2 ReferenceIdeal.cfg0.N,
    (θ_run defs _ _).mono (fun _ h c => ⟨(h.1 c 2).trans ((finalA_out m ρ c).trans (out_eq hP c)),
      (h.1 c 0).trans (finalA_x m ρ c), (h.1 c 1).trans (finalA_w m ρ c)⟩) (run_main m ρ),
    (θ_run ReferenceIdeal.defs _ _).mono (fun _ h => h 0) (ReferenceIdeal.Value.run_blocks m' ρ')⟩

end Cert.KernelIdeal.Ring

end
-- ==== Proof.lean ====
/- `Cert.Claim`: the frames of the three programs and the value of the kernel over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Frames
public import proofs.«01_k».proof.Proof.Whole

@[expose] public section

noncomputable section

namespace Cert.Proof

open Cert.KernelIdeal.Ring

theorem claim : Cert.Claim :=
  ⟨Cert.Kernel.Gen.facts, Cert.KernelIdeal.Gen.facts, Cert.ReferenceIdeal.Gen.facts,
    frame_kernel, frame_ideal, fun m ρ _ => Cert.ReferenceIdeal.Gen.frame m ρ, trivial, algebraic⟩

end Cert.Proof

end
